-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨6, ![1, 16, 4, 64, 8, 128]⟩ ⟨6, ![1, 64, 4, 64, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨6, ![1, 16, 4, 64, 8, 128]⟩ ⟨6, ![1, 64, 4, 64, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x16x4x64x8x128 : Shape := ⟨6, ![1, 16, 4, 64, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x16x4x64x8x128 : S_.BroadcastsInDim S1x16x4x64x8x128 (![] : Fin 0 → Fin S1x16x4x64x8x128.rank)

variable [Facts]

def fn {F : FTy → Type} [FloatOps F] (main_arg0 : FVec F S1x256x1024 .f32) (main_arg1 : FVec F S1024x1024 .f32) (main_arg2 : FVec F S1x16x4x64x8x128 .f32) (main_arg3 : FVec F S1x16x4x64x8x128 .f32) (main_arg4 : FVec F S1024x1024 .f32) : IVec S1x256x1024 1 × IVec S1024x1024 1 × IVec S1x16x4x64x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x16x4x64x8x128 .f32 := Host.absf main_arg2
  let main_cst_1 : FVec F S_ .f32 := constant S_ .f32 0x7F800000#32
  let main_v7 : FVec F S1x16x4x64x8x128 .f32 := broadcastInDim S1x16x4x64x8x128 ![] bcast_S_S1x16x4x64x8x128 main_cst_1
  let main_v8 : IVec S1x16x4x64x8x128 1 := cmpf .olt main_v6 main_v7
  (main_v2, main_v5, main_v8)
-- ==== Pre_finite_ReferenceIdeal.lean ====
abbrev S1x256x1024 : Shape := ⟨3, ![1, 256, 1024]⟩
abbrev S1024x1024 : Shape := ⟨2, ![1024, 1024]⟩
abbrev S1x64x4x64x8x128 : Shape := ⟨6, ![1, 64, 4, 64, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x64x4x64x8x128 : S_.BroadcastsInDim S1x64x4x64x8x128 (![] : Fin 0 → Fin S1x64x4x64x8x128.rank)

variable [Facts]

def fn {F : FTy → Type} [FloatOps F] (main_arg0 : FVec F S1x256x1024 .f32) (main_arg1 : FVec F S1024x1024 .f32) (main_arg2 : FVec F S1x64x4x64x8x128 .f32) (main_arg3 : FVec F S1x64x4x64x8x128 .f32) (main_arg4 : FVec F S1024x1024 .f32) : IVec S1x256x1024 1 × IVec S1024x1024 1 × IVec S1x64x4x64x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x64x4x64x8x128 .f32 := Host.absf main_arg2
  let main_cst_1 : FVec F S_ .f32 := constant S_ .f32 0x7F800000#32
  let main_v7 : FVec F S1x64x4x64x8x128 .f32 := broadcastInDim S1x64x4x64x8x128 ![] bcast_S_S1x64x4x64x8x128 main_cst_1
  let main_v8 : IVec S1x64x4x64x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x16x4x64x8x128 : Shape := ⟨6, ![1, 16, 4, 64, 8, 128]⟩
abbrev S4x256x1280 : Shape := ⟨3, ![4, 256, 1280]⟩
abbrev S8 : Shape := ⟨1, ![8]⟩
abbrev S_ : Shape := ⟨0, ![]⟩
abbrev S256x1024 : Shape := ⟨2, ![256, 1024]⟩
abbrev S64x128 : Shape := ⟨2, ![64, 128]⟩
abbrev S1x16x1x64x1x128 : Shape := ⟨6, ![1, 16, 1, 64, 1, 128]⟩
abbrev S16x64x128 : Shape := ⟨3, ![16, 64, 128]⟩
abbrev S1024x128 : Shape := ⟨2, ![1024, 128]⟩
abbrev S64x1024 : Shape := ⟨2, ![64, 1024]⟩
abbrev S64 : Shape := ⟨1, ![64]⟩
abbrev S64x1 : Shape := ⟨2, ![64, 1]⟩
abbrev S1x64x128 : Shape := ⟨3, ![1, 64, 128]⟩
abbrev S1x64x1 : Shape := ⟨3, ![1, 64, 1]⟩
abbrev S1 : Shape := ⟨1, ![1]⟩
abbrev S1x256x640 : Shape := ⟨3, ![1, 256, 640]⟩
abbrev S256x640 : Shape := ⟨2, ![256, 640]⟩
abbrev S1x128x640 : Shape := ⟨3, ![1, 128, 640]⟩
abbrev S128x640 : Shape := ⟨2, ![128, 640]⟩
abbrev S256x128 : Shape := ⟨2, ![256, 128]⟩
abbrev S256x1 : Shape := ⟨2, ![256, 1]⟩
abbrev S256x512 : Shape := ⟨2, ![256, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x16x4x64x8x128, .f32⟩
  | .hbm, ⟨3, _⟩ => ⟨S1x16x4x64x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1x16x4x64x8x128, .f32⟩
  | .local _ .vmem, ⟨3, _⟩ => ⟨S1x16x4x64x8x128, .f32⟩
  | .local _ .vmem, ⟨4, _⟩ => ⟨S1024x1024, .f32⟩
  | .local _ .vmem, ⟨5, _⟩ => ⟨S1x256x1024, .f32⟩
  | .local _ .vmem, ⟨6, _⟩ => ⟨S4x256x1280, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_343 : BitVec 32 := 1#32
  let v340 : BitVec 32 := Scalar.muli v7 c1_i32_343
  let v341 : BitVec 32 := Scalar.addi c0_i32_344 v340
  v341.toNat
def k0_dev4 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_353 : BitVec 32 := 1#32
  let v350 : BitVec 32 := Scalar.muli v5 c1_i32_353
  let v351 : BitVec 32 := Scalar.addi c0_i32_354 v350
  v351.toNat
def k0_dev5 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_534 : BitVec 32 := 1#32
  let v528 : BitVec 32 := Scalar.muli v7 c1_i32_534
  let v529 : BitVec 32 := Scalar.addi c0_i32_535 v528
  v529.toNat
def k0_dev6 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_554 : BitVec 32 := 1#32
  let v546 : BitVec 32 := Scalar.muli v5 c1_i32_554
  let v547 : BitVec 32 := Scalar.addi c0_i32_555 v546
  v547.toNat
def k0_dev7 (d0 : Dev nD) : Nat :=
  let c0_i32_726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_725 : BitVec 32 := 1#32
  let v716 : BitVec 32 := Scalar.muli v7 c1_i32_725
  let v717 : BitVec 32 := Scalar.addi c0_i32_726 v716
  v717.toNat
def k0_dev8 (d0 : Dev nD) : Nat :=
  let c0_i32_734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_733 : BitVec 32 := 1#32
  let v726 : BitVec 32 := Scalar.muli v5 c1_i32_733
  let v727 : BitVec 32 := Scalar.addi c0_i32_734 v726
  v727.toNat
def k0_dev9 (d0 : Dev nD) : Nat :=
  let c0_i32_788 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_787 : BitVec 32 := 1#32
  let v795 : BitVec 32 := Scalar.muli v7 c1_i32_787
  let v796 : BitVec 32 := Scalar.addi c0_i32_788 v795
  v796.toNat
def k0_dev10 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_806 : BitVec 32 := 1#32
  let v813 : BitVec 32 := Scalar.muli v5 c1_i32_806
  let v814 : BitVec 32 := Scalar.addi c0_i32_807 v813
  v814.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16x4x64x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16x4x64x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x64x4x64x8x128 : Shape := ⟨6, ![1, 64, 4, 64, 8, 128]⟩
abbrev S1x16384x8x128 : Shape := ⟨4, ![1, 16384, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S16384 : Shape := ⟨1, ![16384]⟩
abbrev S1x16384 : Shape := ⟨2, ![1, 16384]⟩
abbrev S256x16384 : Shape := ⟨2, ![256, 16384]⟩
abbrev S1x8x256x16384 : Shape := ⟨4, ![1, 8, 256, 16384]⟩
abbrev S1x1x256x16384 : Shape := ⟨4, ![1, 1, 256, 16384]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 139
  | .vmem => 0
  | .smem => 0
  | _ => 0

abbrev hbmTy0_0 (i : Nat) : BufTy := match i % 128 with
  | 0 => ⟨S1x256x1024, .f32⟩
  | 1 => ⟨S1024x1024, .f32⟩
  | 2 => ⟨S1x64x4x64x8x128, .f32⟩
  | 3 => ⟨S1x64x4x64x8x128, .f32⟩
  | 4 => ⟨S1024x1024, .f32⟩
  | 5 => ⟨S1x16384x8x128, .f32⟩
  | 6 => ⟨S1x16384x8x128, .f32⟩
  | 7 => ⟨S1x256x1024, .f32⟩
  | 8 => ⟨S1x256x8x128, .f32⟩
  | 9 => ⟨S256, .i32⟩
  | 10 => ⟨S_, .i32⟩
  | 11 => ⟨S_, .i32⟩
  | 12 => ⟨S256, .i32⟩
  | 13 => ⟨S256, .i32⟩
  | 14 => ⟨S256, .i32⟩
  | 15 => ⟨S_, .i32⟩
  | 16 => ⟨S256, .i32⟩
  | 17 => ⟨S256, .i1⟩
  | 18 => ⟨S256, .i32⟩
  | 19 => ⟨S256, .i32⟩
  | 20 => ⟨S_, .i32⟩
  | 21 => ⟨S256, .i32⟩
  | 22 => ⟨S256, .i1⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S16384, .i32⟩
  | 30 => ⟨S_, .i32⟩
  | 31 => ⟨S_, .i32⟩
  | 32 => ⟨S16384, .i32⟩
  | 33 => ⟨S16384, .i32⟩
  | 34 => ⟨S16384, .i32⟩
  | 35 => ⟨S_, .i32⟩
  | 36 => ⟨S16384, .i32⟩
  | 37 => ⟨S16384, .i1⟩
  | 38 => ⟨S16384, .i32⟩
  | 39 => ⟨S16384, .i32⟩
  | 40 => ⟨S_, .i32⟩
  | 41 => ⟨S16384, .i32⟩
  | 42 => ⟨S16384, .i1⟩
  | 43 => ⟨S16384, .i1⟩
  | 44 => ⟨S_, .i32⟩
  | 45 => ⟨S16384, .i32⟩
  | 46 => ⟨S16384, .i32⟩
  | 47 => ⟨S16384, .i32⟩
  | 48 => ⟨S1x16384, .i32⟩
  | 49 => ⟨S256x16384, .i32⟩
  | 50 => ⟨S256x16384, .i32⟩
  | 51 => ⟨S256x16384, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x16384, .i32⟩
  | 59 => ⟨S1x16384, .i32⟩
  | 60 => ⟨S_, .i32⟩
  | 61 => ⟨S1x16384, .i32⟩
  | 62 => ⟨S1x16384, .i1⟩
  | 63 => ⟨S_, .i32⟩
  | 64 => ⟨S1x16384, .i32⟩
  | 65 => ⟨S1x16384, .i1⟩
  | 66 => ⟨S_, .i32⟩
  | 67 => ⟨S_, .i1⟩
  | 68 => ⟨S1x16384, .i1⟩
  | 69 => ⟨S1x16384, .i1⟩
  | 70 => ⟨S1x16384, .i1⟩
  | 71 => ⟨S1x16384, .i32⟩
  | 72 => ⟨S1x16384, .i32⟩
  | 73 => ⟨S1x16384, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S256x1, .i32⟩
  | 81 => ⟨S256x1, .i32⟩
  | 82 => ⟨S_, .i32⟩
  | 83 => ⟨S256x1, .i32⟩
  | 84 => ⟨S256x1, .i1⟩
  | 85 => ⟨S_, .i32⟩
  | 86 => ⟨S256x1, .i32⟩
  | 87 => ⟨S256x1, .i1⟩
  | 88 => ⟨S_, .i32⟩
  | 89 => ⟨S_, .i1⟩
  | 90 => ⟨S256x1, .i1⟩
  | 91 => ⟨S256x1, .i1⟩
  | 92 => ⟨S256x1, .i1⟩
  | 93 => ⟨S256x1, .i32⟩
  | 94 => ⟨S256x1, .i32⟩
  | 95 => ⟨S256x1, .i32⟩
  | 96 => ⟨S256x16384, .i32⟩
  | 97 => ⟨S256x16384, .i32⟩
  | 98 => ⟨S256x16384, .i1⟩
  | 99 => ⟨S256x16384, .i1⟩
  | 100 => ⟨S1x8x256x16384, .f32⟩
  | 101 => ⟨S_, .f32⟩
  | 102 => ⟨S1x8x256x16384, .f32⟩
  | 103 => ⟨S1x8x256x16384, .f32⟩
  | 104 => ⟨S1x1x256x16384, .i1⟩
  | 105 => ⟨S_, .f32⟩
  | 106 => ⟨S_, .f32⟩
  | 107 => ⟨S1x8x256x16384, .i1⟩
  | 108 => ⟨S1x8x256x16384, .f32⟩
  | 109 => ⟨S1x8x256x16384, .f32⟩
  | 110 => ⟨S_, .f32⟩
  | 111 => ⟨S1x8x256, .f32⟩
  | 112 => ⟨S1x8x256x1, .f32⟩
  | 113 => ⟨S1x8x256x16384, .f32⟩
  | 114 => ⟨S1x8x256x16384, .f32⟩
  | 115 => ⟨S1x8x256x16384, .f32⟩
  | 116 => ⟨S_, .i1⟩
  | 117 => ⟨S256, .i1⟩
  | 118 => ⟨S1x1x256x1, .i1⟩
  | 119 => ⟨S_, .f32⟩
  | 120 => ⟨S1x8x256, .f32⟩
  | 121 => ⟨S1x8x256x1, .f32⟩
  | 122 => ⟨S_, .f32⟩
  | 123 => ⟨S_, .f32⟩
  | 124 => ⟨S1x8x256x1, .i1⟩
  | 125 => ⟨S1x8x256x1, .f32⟩
  | 126 => ⟨S1x8x256x1, .f32⟩
  | 127 => ⟨S1x8x256x16384, .f32⟩
  | _ => ⟨S1x256x1024, .f32⟩

abbrev hbmTy0_1 (i : Nat) : BufTy := match i % 128 with
  | 0 => ⟨S1x8x256x16384, .f32⟩
  | 1 => ⟨S1x1x256x1, .i1⟩
  | 2 => ⟨S_, .f32⟩
  | 3 => ⟨S_, .f32⟩
  | 4 => ⟨S1x8x256x16384, .i1⟩
  | 5 => ⟨S1x8x256x16384, .f32⟩
  | 6 => ⟨S1x8x256x16384, .f32⟩
  | 7 => ⟨S1x8x128x256, .f32⟩
  | 8 => ⟨S1x256x8x128, .f32⟩
  | 9 => ⟨S1x256x1024, .f32⟩
  | 10 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Contents.lean ====
/-
# `Contents`: what the kernel's exchange buffer holds

The exchange buffer `cc0_scratch0` has four slots of 256 rows by 1280 lanes. Slot 0 is the device's own partial
attention: the lanes are cut into two halves of 640, half `b` holding heads `4b … 4b+3`; in a half the first 512 lanes
are the four heads' unnormalised outputs (128 lanes each), the next four lanes the four heads' sums of exponentials, and
the remaining lanes are never written. Slots 1 to 3 take other devices' slot 0.

This module names the boxes of the buffer the transfers move, the value every useful lane takes (`own`), and proves how
a store into slot 0 and a landing transfer keep those values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

abbrev xM : Memref sig .tc .vmem S1x256x1024 .f32 := Memref.whole cc0_stg0_0
abbrev wqM : Memref sig .tc .vmem S1024x1024 .f32 := Memref.whole cc0_stg1_0
abbrev kM : Memref sig .tc .vmem S1x16x4x64x8x128 .f32 := Memref.whole cc0_stg2_0
abbrev vM : Memref sig .tc .vmem S1x16x4x64x8x128 .f32 := Memref.whole cc0_stg3_0
abbrev woM : Memref sig .tc .vmem S1024x1024 .f32 := Memref.whole cc0_stg4_0
abbrev outM : Memref sig .tc .vmem S1x256x1024 .f32 := Memref.whole cc0_stg5_0
abbrev commM : Memref sig .tc .vmem S4x256x1280 .bf16 := Memref.whole cc0_scratch0

/-- The exchange buffer's contents. -/
abbrev Comm (F : FTy → Type) : Type := S4x256x1280.Idx → F .bf16

/-! ## One block of the attention -/

theorem slices_q (j : Fin 4) (h : Fin 8) : S256x1024.Slices ![64 * j.val, 128 * h.val] S64x128 := by
  revert j h; decide

theorem inb_kv (j : Fin 4) (h : Fin 8) :
    ∀ a, (![0, 0, j.val, 0, h.val, 0] : Fin 6 → Nat) a + S1x16x1x64x1x128.size a ≤ S1x16x4x64x8x128.size a := by
  revert j h; decide

/-- The scaled query rows of group `j`, lanes of head `h`. -/
def qCut (q : FVec F S256x1024 .f32) (j : Fin 4) (h : Fin 8) : FVec F S64x128 .f32 :=
  extractStridedSlice S64x128 ![64 * j.val, 128 * h.val] q (slices_q j h)

/-- The keys (or values) of residue `j` and head `h` in a device's staged block. -/
def kvCut (X : S1x16x4x64x8x128.Idx → F .f32) (j : Fin 4) (h : Fin 8) : Vec F S1x16x1x64x1x128 .f32 :=
  kM.view.readAt (Elt F) (Rect.unit (s := S1x16x4x64x8x128) ![0, 0, j.val, 0, h.val, 0] S1x16x1x64x1x128.size (inb_kv j h)).toLoadRect X

/-- The block's unnormalised output: the exponentials of the scores times the values, rounded to bf16. -/
def oBlk (q : FVec F S256x1024 .f32) (K V : S1x16x4x64x8x128.Idx → F .f32) (j : Fin 4) (h : Fin 8) : FVec F S1x64x128 .bf16 :=
  k0_pay5 (qCut q j h) (k0_pay3 (kvCut K j h)) (kvCut V j h)
/-- The block's sums of exponentials, rounded to bf16. -/
def lBlk (q : FVec F S256x1024 .f32) (K : S1x16x4x64x8x128.Idx → F .f32) (j : Fin 4) (h : Fin 8) : FVec F S1x64x1 .bf16 :=
  k0_pay6 (qCut q j h) (k0_pay3 (kvCut K j h))

/-- The value of a device's own slot at row `r` and lane `l` (the unwritten lanes get some value, never read). -/
def ownAt (q : FVec F S256x1024 .f32) (K V : S1x16x4x64x8x128.Idx → F .f32) (r : Fin 256) (l : Fin 1280) : F .bf16 :=
  if l.val % 640 < 512 then
    oBlk q K V ⟨r.val / 64, by omega⟩ ⟨4 * (l.val / 640) + l.val % 640 / 128 % 4, by omega⟩
      (fun | 0 => ⟨0, by decide⟩ | 1 => ⟨r.val % 64, Nat.mod_lt _ (by decide)⟩ | 2 => ⟨l.val % 640 % 128, Nat.mod_lt _ (by decide)⟩)
  else
    lBlk q K ⟨r.val / 64, by omega⟩ ⟨4 * (l.val / 640) + (l.val % 640 - 512) % 4, by omega⟩
      (fun | 0 => ⟨0, by decide⟩ | 1 => ⟨r.val % 64, Nat.mod_lt _ (by decide)⟩ | 2 => ⟨0, by decide⟩)

/-! ## Boxes of the exchange buffer -/

/-- Slot `s`, rows `r0` to `r1`, lanes `l0` to `l1`. -/
def bx (s r0 r1 l0 l1 : ℕ) : Finset S4x256x1280.Idx :=
  Finset.univ.filter fun i => (i 0).val = s ∧ (r0 ≤ (i 1).val ∧ (i 1).val < r1) ∧ (l0 ≤ (i 2).val ∧ (i 2).val < l1)

theorem mem_bx {s r0 r1 l0 l1 : ℕ} {i : S4x256x1280.Idx} :
    i ∈ bx s r0 r1 l0 l1 ↔ (i 0).val = s ∧ (r0 ≤ (i 1).val ∧ (i 1).val < r1) ∧ (l0 ≤ (i 2).val ∧ (i 2).val < l1) := by
  unfold bx; rw [Finset.mem_filter]; exact ⟨fun h => h.2, fun h => ⟨Finset.mem_univ _, h⟩⟩

/-- A unit rectangle of one slot is a box. -/
theorem unit_set_eq {off size : Fin 3 → ℕ} (inb : ∀ a, off a + size a ≤ S4x256x1280.size a) (h0 : size 0 = 1) :
    (Rect.unit (s := S4x256x1280) off size inb).set = bx (off 0) (off 1) (off 1 + size 1) (off 2) (off 2 + size 2) := by
  ext i
  rw [Rect.mem_set_unit, mem_bx]
  constructor
  · intro h
    have h0' := h 0; have h1 := h 1; have h2 := h 2
    exact ⟨by omega, h1, h2⟩
  · rintro ⟨ha, hb, hc⟩ a
    match a with
    | ⟨0, _⟩ => exact ⟨by show off 0 ≤ (i 0).val; omega, by show (i 0).val < off 0 + size 0; omega⟩
    | ⟨1, _⟩ => exact hb
    | ⟨2, _⟩ => exact hc

/-- The elements a squeezed slice of the buffer covers. -/
theorem sliceSet {off size : Fin 3 → ℕ} (inb : ∀ a, off a + size a ≤ S4x256x1280.size a) (h0 : size 0 = 1) {s' : Shape}
    (hr) (hq : (Rect.unit (s := S4x256x1280) off size inb).shape.Squeezes s') :
    ((commM.slice (Rect.unit (s := S4x256x1280) off size inb) hr).squeeze s' hq).view.set
      = bx (off 0) (off 1) (off 1 + size 1) (off 2) (off 2 + size 2) := by
  refine (View.set_reshape _ _).trans ((View.set_slice_whole _ _).trans (unit_set_eq inb h0))

/-- The elements a store into one slot covers. -/
theorem accSet {off size : Fin 3 → ℕ} (inb : ∀ a, off a + size a ≤ S4x256x1280.size a) (h0 : size 0 = 1) :
    (commM.access (Rect.unit (s := S4x256x1280) off size inb)).setOn Finset.univ
      = bx (off 0) (off 1) (off 1 + size 1) (off 2) (off 2 + size 2) :=
  (View.setOn_univ _).trans ((View.set_slice_whole _ _).trans (unit_set_eq inb h0))

/-- The useful lanes: in each half the four heads' outputs and the four sums. -/
def Useful (i : S4x256x1280.Idx) : Prop := (i 2).val % 640 < 516

/-- On the useful lanes of `S`, the contents `f` are the partial attention `(q, K, V)`. -/
def Good (q : FVec F S256x1024 .f32) (K V : S1x16x4x64x8x128.Idx → F .f32) (S : Finset S4x256x1280.Idx) (f : Comm F) : Prop :=
  ∀ i ∈ S, Useful i → f i = ownAt q K V (i 1) (i 2)

theorem Good.mono {q : FVec F S256x1024 .f32} {K V : S1x16x4x64x8x128.Idx → F .f32} {S T : Finset S4x256x1280.Idx} {f : Comm F}
    (h : Good q K V T f) (hs : S ⊆ T) : Good q K V S f := fun i hi hu => h i (hs hi) hu

/-- A transfer between two boxes of the same rows and lanes carries the values over. -/
theorem Good.landed {q : FVec F S256x1024 .f32} {K V : S1x16x4x64x8x128.Idx → F .f32} {off off' size : Fin 3 → ℕ}
    (inb : ∀ a, off a + size a ≤ S4x256x1280.size a) (inb' : ∀ a, off' a + size a ≤ S4x256x1280.size a)
    {s' : Shape} (hr hr') (hq : (Rect.unit (s := S4x256x1280) off size inb).shape.Squeezes s')
    (hq' : (Rect.unit (s := S4x256x1280) off' size inb').shape.Squeezes s')
    (h1 : off 1 = off' 1) (h2 : off 2 = off' 2) {fs fd : Comm F}
    (h : Good q K V ((commM.slice (Rect.unit (s := S4x256x1280) off size inb) hr).squeeze s' hq).view.set fs) :
    Good q K V ((commM.slice (Rect.unit (s := S4x256x1280) off' size inb') hr').squeeze s' hq').view.set
      (((commM.slice (Rect.unit (s := S4x256x1280) off' size inb') hr').squeeze s' hq').view.write (Elt F) fd
        (((commM.slice (Rect.unit (s := S4x256x1280) off size inb) hr).squeeze s' hq).view.read (Elt F) fs) Finset.univ) := by
  intro i hi hu
  obtain ⟨x, -, rfl⟩ := Finset.mem_map.mp hi
  rw [View.write_emb_of_mem _ _ (Finset.mem_univ x)]
  have e1 : (((commM.slice (Rect.unit (s := S4x256x1280) off size inb) hr).squeeze s' hq).view.emb x) 1
      = (((commM.slice (Rect.unit (s := S4x256x1280) off' size inb') hr').squeeze s' hq').view.emb x) 1 := by
    apply Fin.ext
    show off 1 + 1 * ((Shape.reshapeEquiv hq.numel_eq x) 1).val = off' 1 + 1 * ((Shape.reshapeEquiv hq'.numel_eq x) 1).val
    rw [h1]
  have e2 : (((commM.slice (Rect.unit (s := S4x256x1280) off size inb) hr).squeeze s' hq).view.emb x) 2
      = (((commM.slice (Rect.unit (s := S4x256x1280) off' size inb') hr').squeeze s' hq').view.emb x) 2 := by
    apply Fin.ext
    show off 2 + 1 * ((Shape.reshapeEquiv hq.numel_eq x) 2).val = off' 2 + 1 * ((Shape.reshapeEquiv hq'.numel_eq x) 2).val
    rw [h2]
  have hs := h _ (View.emb_mem_set _ x) (by unfold Useful at hu ⊢; rw [e2]; exact hu)
  rw [e1, e2] at hs
  exact hs

/-! ## The stores into slot 0 -/

/-- The order in which half `b`'s blocks are stored: output then sums, group by group, head by head. -/
def keyOf (i : S4x256x1280.Idx) : ℕ :=
  if (i 2).val % 640 < 512 then 2 * (4 * ((i 2).val % 640 / 128) + (i 1).val / 64)
  else 2 * (4 * ((i 2).val % 640 - 512) + (i 1).val / 64) + 1

/-- The box of half `b` of slot 0. -/
abbrev ownBx (b : ℕ) : Finset S4x256x1280.Idx := bx 0 0 256 (640 * b) (640 * b + 640)

/-- After the first `n` stores of half `b`, the useful lanes they cover hold the partial attention. -/
def Upto (q : FVec F S256x1024 .f32) (K V : S1x16x4x64x8x128.Idx → F .f32) (b n : ℕ) (f : Comm F) : Prop :=
  ∀ i ∈ ownBx b, Useful i → keyOf i < n → f i = ownAt q K V (i 1) (i 2)

theorem Upto.zero {q : FVec F S256x1024 .f32} {K V : S1x16x4x64x8x128.Idx → F .f32} {b : ℕ} {f : Comm F} : Upto q K V b 0 f :=
  fun i _ _ h => absurd h (Nat.not_lt_zero _)

theorem Upto.good {q : FVec F S256x1024 .f32} {K V : S1x16x4x64x8x128.Idx → F .f32} {b : ℕ} {f : Comm F} (h : Upto q K V b 32 f) :
    Good q K V (ownBx b) f := fun i hi hu => h i hi hu (by
  have h1 := (i 1).isLt
  have h1' : (i 1).val < 256 := h1
  unfold Useful at hu; unfold keyOf
  split <;> omega)

/-- Where store `n` of half `b` goes. -/
def offO (b n : ℕ) : Fin 3 → ℕ := ![0, 64 * (n / 2 % 4), 640 * b + 128 * (n / 8)]
def offL (b n : ℕ) : Fin 3 → ℕ := ![0, 64 * (n / 2 % 4), 640 * b + 512 + n / 8]

theorem Upto.storeO {q : FVec F S256x1024 .f32} {K V : S1x16x4x64x8x128.Idx → F .f32} {b n : ℕ} {f : Comm F} (h : Upto q K V b n f)
    (hb : b < 2) (hn : n < 32) (he : n % 2 = 0) {off : Fin 3 → ℕ} (hoff : off = offO b n)
    (inb : ∀ a, off a + S1x64x128.size a ≤ S4x256x1280.size a) {w : S1x64x128.Idx → F .bf16}
    (hw : w = oBlk q K V ⟨n / 2 % 4, by omega⟩ ⟨4 * b + n / 8, by omega⟩) :
    Upto q K V b (n + 1) ((commM.access (Rect.unit (s := S4x256x1280) off S1x64x128.size inb)).write (Elt F) f w Finset.univ) := by
  subst hoff hw
  intro i hi hu hk
  rw [mem_bx] at hi
  unfold Useful at hu
  by_cases hm : i ∈ (commM.access (Rect.unit (s := S4x256x1280) (offO b n) S1x64x128.size inb)).setOn Finset.univ
  · obtain ⟨x, -, rfl⟩ := Finset.mem_map.mp hm
    rw [View.write_emb_of_mem _ _ (Finset.mem_univ x)]
    have c1 : (((commM.access (Rect.unit (s := S4x256x1280) (offO b n) S1x64x128.size inb)).emb x) 1).val = 64 * (n / 2 % 4) + 1 * (x 1).val := rfl
    have c2 : (((commM.access (Rect.unit (s := S4x256x1280) (offO b n) S1x64x128.size inb)).emb x) 2).val = 640 * b + 128 * (n / 8) + 1 * (x 2).val := rfl
    have x1 : (x 1).val < 64 := (x 1).isLt
    have x2 : (x 2).val < 128 := (x 2).isLt
    have x0 : (x 0).val < 1 := (x 0).isLt
    show oBlk q K V _ _ x = _
    unfold ownAt
    rw [if_pos (by rw [c2]; omega)]
    congr 1
    · exact Fin.ext (by show n / 2 % 4 = _ / 64; rw [c1]; omega)
    · exact Fin.ext (by show 4 * b + n / 8 = 4 * (_ / 640) + _ % 640 / 128 % 4; rw [c2]; omega)
    · funext a
      match a with
      | ⟨0, _⟩ => exact Fin.ext (by show (x 0).val = 0; omega)
      | ⟨1, _⟩ => exact Fin.ext (by show (x 1).val = _ % 64; rw [c1]; omega)
      | ⟨2, _⟩ => exact Fin.ext (by show (x 2).val = _ % 640 % 128; rw [c2]; omega)
  · rw [View.write_of_not_mem _ _ _ hm]
    refine h i (mem_bx.mpr hi) hu ?_
    rcases Nat.lt_succ_iff_lt_or_eq.mp hk with hk | hk
    · exact hk
    · exfalso; apply hm
      rw [accSet inb rfl, mem_bx]
      unfold keyOf at hk
      show (i 0).val = 0 ∧ (64 * (n / 2 % 4) ≤ (i 1).val ∧ (i 1).val < 64 * (n / 2 % 4) + 64)
        ∧ (640 * b + 128 * (n / 8) ≤ (i 2).val ∧ (i 2).val < 640 * b + 128 * (n / 8) + 128)
      split at hk <;> omega

theorem Upto.storeL {q : FVec F S256x1024 .f32} {K V : S1x16x4x64x8x128.Idx → F .f32} {b n : ℕ} {f : Comm F} (h : Upto q K V b n f)
    (hb : b < 2) (hn : n < 32) (he : n % 2 = 1) {off : Fin 3 → ℕ} (hoff : off = offL b n)
    (inb : ∀ a, off a + S1x64x1.size a ≤ S4x256x1280.size a) {w : S1x64x1.Idx → F .bf16}
    (hw : w = lBlk q K ⟨n / 2 % 4, by omega⟩ ⟨4 * b + n / 8, by omega⟩) :
    Upto q K V b (n + 1) ((commM.access (Rect.unit (s := S4x256x1280) off S1x64x1.size inb)).write (Elt F) f w Finset.univ) := by
  subst hoff hw
  intro i hi hu hk
  rw [mem_bx] at hi
  unfold Useful at hu
  by_cases hm : i ∈ (commM.access (Rect.unit (s := S4x256x1280) (offL b n) S1x64x1.size inb)).setOn Finset.univ
  · obtain ⟨x, -, rfl⟩ := Finset.mem_map.mp hm
    rw [View.write_emb_of_mem _ _ (Finset.mem_univ x)]
    have c1 : (((commM.access (Rect.unit (s := S4x256x1280) (offL b n) S1x64x1.size inb)).emb x) 1).val = 64 * (n / 2 % 4) + 1 * (x 1).val := rfl
    have c2 : (((commM.access (Rect.unit (s := S4x256x1280) (offL b n) S1x64x1.size inb)).emb x) 2).val = 640 * b + 512 + n / 8 + 1 * (x 2).val := rfl
    have x1 : (x 1).val < 64 := (x 1).isLt
    have x2 : (x 2).val < 1 := (x 2).isLt
    have x0 : (x 0).val < 1 := (x 0).isLt
    show lBlk q K _ _ x = _
    unfold ownAt
    rw [if_neg (by rw [c2]; omega)]
    congr 1
    · exact Fin.ext (by show n / 2 % 4 = _ / 64; rw [c1]; omega)
    · exact Fin.ext (by show 4 * b + n / 8 = 4 * (_ / 640) + (_ % 640 - 512) % 4; rw [c2]; omega)
    · funext a
      match a with
      | ⟨0, _⟩ => exact Fin.ext (by show (x 0).val = 0; omega)
      | ⟨1, _⟩ => exact Fin.ext (by show (x 1).val = _ % 64; rw [c1]; omega)
      | ⟨2, _⟩ => exact Fin.ext (by show (x 2).val = 0; omega)
  · rw [View.write_of_not_mem _ _ _ hm]
    refine h i (mem_bx.mpr hi) hu ?_
    rcases Nat.lt_succ_iff_lt_or_eq.mp hk with hk | hk
    · exact hk
    · exfalso; apply hm
      rw [accSet inb rfl, mem_bx]
      unfold keyOf at hk
      show (i 0).val = 0 ∧ (64 * (n / 2 % 4) ≤ (i 1).val ∧ (i 1).val < 64 * (n / 2 % 4) + 64)
        ∧ (640 * b + 512 + n / 8 ≤ (i 2).val ∧ (i 2).val < 640 * b + 512 + n / 8 + 1)
      split at hk <;> omega

/-- The stores' rectangles lie in their half of slot 0. -/
theorem offO_sub {b n : ℕ} (hn : n < 32) {off : Fin 3 → ℕ} (hoff : off = offO b n)
    (inb : ∀ a, off a + S1x64x128.size a ≤ S4x256x1280.size a) :
    (Rect.unit (s := S4x256x1280) off S1x64x128.size inb).set ⊆ ownBx b := by
  subst hoff
  rw [unit_set_eq _ rfl]
  intro i hi
  rw [mem_bx] at hi ⊢
  have hi' : (i 0).val = 0 ∧ (64 * (n / 2 % 4) ≤ (i 1).val ∧ (i 1).val < 64 * (n / 2 % 4) + 64)
      ∧ (640 * b + 128 * (n / 8) ≤ (i 2).val ∧ (i 2).val < 640 * b + 128 * (n / 8) + 128) := hi
  omega
theorem offL_sub {b n : ℕ} (hn : n < 32) {off : Fin 3 → ℕ} (hoff : off = offL b n)
    (inb : ∀ a, off a + S1x64x1.size a ≤ S4x256x1280.size a) :
    (Rect.unit (s := S4x256x1280) off S1x64x1.size inb).set ⊆ ownBx b := by
  subst hoff
  rw [unit_set_eq _ rfl]
  intro i hi
  rw [mem_bx] at hi ⊢
  have hi' : (i 0).val = 0 ∧ (64 * (n / 2 % 4) ≤ (i 1).val ∧ (i 1).val < 64 * (n / 2 % 4) + 64)
      ∧ (640 * b + 512 + n / 8 ≤ (i 2).val ∧ (i 2).val < 640 * b + 512 + n / 8 + 1) := hi
  omega

end Cert.RingProof

end
-- ==== Proof.Protocol.lean ====
/-
# `Protocol`: the ring exchange as a schedule

Four devices in a ring. A device sends its own slot (each half when its heads are done) to both neighbours, then passes the
top rows of what came from the left on to the right and the bottom rows of what came from the right on to the left, so that
the opposite device's slot arrives in two pieces. Transfer `k` (eight of them) has a send and a receive semaphore; the
barrier semaphore is signalled once by each neighbour before anything is sent, which hands over the boxes the receiving
device will have written by the transfers.

The module gives the schedule of the seventeen cells (payloads with their contents), what each device owes, and the levels
that order the waits.
-/
module

public import proofs.«01_k».proof.Proof.Contents

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Next along the ring, as a permutation of the devices. -/
def turn : Dev nD ≃ Dev nD := ⟨nxt, prv, prv_nxt, nxt_prv⟩

/-- The device transfer `k` of device `c` goes to: the even ones go right, the odd ones left. -/
def peer : Fin 8 → Dev nD ≃ Dev nD
  | 0 => turn | 1 => turn.symm | 2 => turn | 3 => turn.symm | 4 => turn | 5 => turn.symm | 6 => turn | 7 => turn.symm

/-- Whose slot transfer `k` of device `c` carries, -/
def srcOrigin : Fin 8 → Dev nD → Dev nD
  | 0, c => c | 1, c => c | 2, c => prv c | 3, c => nxt c | 4, c => c | 5, c => c | 6, c => prv c | 7, c => nxt c
/-- and whose slot lands on device `n` with it. -/
def origin : Fin 8 → Dev nD → Dev nD
  | 0, n => prv n | 1, n => nxt n | 2, n => prv (prv n) | 3, n => nxt (nxt n)
  | 4, n => prv n | 5, n => nxt n | 6, n => prv (prv n) | 7, n => nxt (nxt n)

theorem origin_peer (k : Fin 8) (c : Dev nD) : origin k (peer k c) = srcOrigin k c := by revert k c; decide

/-! ## Boxes of the transfers -/

def dstBox : Fin 8 → Finset S4x256x1280.Idx
  | 0 => bx 1 0 256 0 640 | 1 => bx 2 0 256 0 640 | 2 => bx 3 0 128 0 640 | 3 => bx 3 128 256 0 640
  | 4 => bx 1 0 256 640 1280 | 5 => bx 2 0 256 640 1280 | 6 => bx 3 0 128 640 1280 | 7 => bx 3 128 256 640 1280
def srcBox : Fin 8 → Finset S4x256x1280.Idx
  | 0 => bx 0 0 256 0 640 | 1 => bx 0 0 256 0 640 | 2 => bx 1 0 128 0 640 | 3 => bx 2 128 256 0 640
  | 4 => bx 0 0 256 640 1280 | 5 => bx 0 0 256 640 1280 | 6 => bx 1 0 128 640 1280 | 7 => bx 2 128 256 640 1280
/-- The share of the source a transfer borrows; the left share stays with the device, which reads it meanwhile. -/
def srcShare : Fin 8 → PosShare TreeShare
  | 0 => fullShare.right.left | 1 => fullShare.right.right | 2 => fullShare.right | 3 => fullShare.right
  | 4 => fullShare.right.left | 5 => fullShare.right.right | 6 => fullShare.right | 7 => fullShare.right

/-! ## Cells -/

/-- The runtime's barrier semaphore of collective id 0. -/
abbrev barS : Sem sig := (SemArray.scalar (sig.barrier 0 rfl) : Sems sig S_).sem
set_option backward.proofsInPublic true in
def dsem (n : ℕ) (h : n < 22 := by decide) : DmaSem sig := ⟨n, h⟩

set_option backward.proofsInPublic true in
/-- The kernel's own semaphores: eight send semaphores, then eight receive semaphores; -/
def osem (i : Fin 16) : SemLoc sig := .dma (dsem (6 + i.val) (by omega))
/-- with the barrier semaphore in front, the protocol's seventeen. -/
def csem (i : Fin 17) : SemLoc sig := if h : i.val = 0 then .reg barS else osem ⟨i.val - 1, by omega⟩
set_option backward.proofsInPublic true in
def sIx (k : Fin 8) : Fin 17 := ⟨1 + k.val, by omega⟩
set_option backward.proofsInPublic true in
def rIx (k : Fin 8) : Fin 17 := ⟨9 + k.val, by omega⟩
abbrev kcell (ck : Dev nD × Fin 17) : GSem nD τ sig := ((ck.1 : Thread nD τ), csem ck.2)

set_option backward.proofsInPublic true in
/-- Which of the protocol's seventeen a semaphore is. -/
def semIx : SemLoc sig → Option (Fin 17)
  | .reg _ => some 0
  | .dma s => if h : 6 ≤ s.val then some ⟨s.val - 5, by have h2 : s.val < 22 := s.isLt; omega⟩ else none

theorem semIx_csem (i : Fin 17) : semIx (csem i) = some i := by revert i; decide
theorem csem_inj {i j : Fin 17} (h : csem i = csem j) : i = j := by
  have := congrArg semIx h; rw [semIx_csem, semIx_csem] at this; exact Option.some.inj this

/-- The credit of a transfer of 256 rows, and of one of 128 rows. -/
def NB : ℕ := ((commM.slice (Rect.unit (s := S4x256x1280) ![0, 0, 0] S1x256x640.size (by decide)) (fun _ => rfl)).squeeze S256x640 (by decide)).view.dmaCredit
def NS : ℕ := ((commM.slice (Rect.unit (s := S4x256x1280) ![0, 0, 0] S1x128x640.size (by decide)) (fun _ => rfl)).squeeze S128x640 (by decide)).view.dmaCredit
theorem NB_pos : 0 < NB := View.dmaCredit_pos _ (by decide)
theorem NS_pos : 0 < NS := View.dmaCredit_pos _ (by decide)
def amt : Fin 8 → ℕ | 0 => NB | 1 => NB | 2 => NS | 3 => NS | 4 => NB | 5 => NB | 6 => NS | 7 => NS
theorem amt_pos (k : Fin 8) : 0 < amt k := by
  match k with
  | 0 => exact NB_pos | 1 => exact NB_pos | 2 => exact NS_pos | 3 => exact NS_pos
  | 4 => exact NB_pos | 5 => exact NB_pos | 6 => exact NS_pos | 7 => exact NS_pos

/-! ## Contents -/

def xS (c : Dev nD) : (cc0_stg0_0 : Ref sig .tc).ty.Contents (Elt F) :=
  (win0_0.blk (0 : Fin 1)).view.read (Elt F) ((s₀ m ρ).mem ((c : Thread nD τ).loc main_arg0))
def wqS (c : Dev nD) : (cc0_stg1_0 : Ref sig .tc).ty.Contents (Elt F) :=
  (win0_1.blk (0 : Fin 1)).view.read (Elt F) ((s₀ m ρ).mem ((c : Thread nD τ).loc main_arg1))
def kS (c : Dev nD) : (cc0_stg2_0 : Ref sig .tc).ty.Contents (Elt F) :=
  (win0_2.blk (0 : Fin 1)).view.read (Elt F) ((s₀ m ρ).mem ((c : Thread nD τ).loc main_arg2))
def vS (c : Dev nD) : (cc0_stg3_0 : Ref sig .tc).ty.Contents (Elt F) :=
  (win0_3.blk (0 : Fin 1)).view.read (Elt F) ((s₀ m ρ).mem ((c : Thread nD τ).loc main_arg3))
def woS (c : Dev nD) : (cc0_stg4_0 : Ref sig .tc).ty.Contents (Elt F) :=
  (win0_4.blk (0 : Fin 1)).view.read (Elt F) ((s₀ m ρ).mem ((c : Thread nD τ).loc main_arg4))
/-- Device `c`'s scaled queries. -/
def qS (c : Dev nD) : FVec F S256x1024 .f32 := k0_pay1 (xS m ρ c) (wqS m ρ c)

/-- Contents good for device `o`'s slot. -/
abbrev GoodOf (o : Dev nD) (S : Finset S4x256x1280.Idx) (f : Comm F) : Prop := Good (qS m ρ o) (kS m ρ o) (vS m ρ o) S f

/-- Device `c`'s buffer on the box `S`, at some contents; -/
def raw (c : Dev nD) (S : Finset S4x256x1280.Idx) : sProp 𝕄 :=
  iprop(∃ f : Buf (Elt F) ((commM : Memref sig .tc .vmem S4x256x1280 .bf16).view.loc (c : Thread nD τ)),
    (commM : Memref sig .tc .vmem S4x256x1280 .bf16).view.loc (c : Thread nD τ) ↦[S]{fullShare} f)
/-- at share `q`, holding device `o`'s slot on the useful lanes. -/
def held (c : Dev nD) (S : Finset S4x256x1280.Idx) (q : PosShare TreeShare) (o : Dev nD) : sProp 𝕄 :=
  iprop(∃ f : Buf (Elt F) ((commM : Memref sig .tc .vmem S4x256x1280 .bf16).view.loc (c : Thread nD τ)),
    ⌜GoodOf m ρ o S f⌝ ∗ ((commM : Memref sig .tc .vmem S4x256x1280 .bf16).view.loc (c : Thread nD τ) ↦[S]{q} f))

omit [FloatOps F] in
instance raw_storable (c : Dev nD) (S) : BI.Storable (upEmb : UEmb _ 𝕄) (raw (F := F) c S) := by unfold raw; infer_instance
instance held_storable (c : Dev nD) (S q o) : BI.Storable (upEmb : UEmb _ 𝕄) (held (F := F) m ρ c S q o) := by unfold held; infer_instance

/-! ## The schedule -/

/-- What the right neighbour's signal hands device `n`: the right neighbour's boxes the even transfers of `n` write; the left
    neighbour's, those the odd ones write. -/
def barPay (n : Dev nD) : Bool → sProp 𝕄
  | true => iprop(raw (nxt n) (dstBox 0) ∗ raw (nxt n) (dstBox 2) ∗ raw (nxt n) (dstBox 4) ∗ raw (nxt n) (dstBox 6))
  | false => iprop(raw (prv n) (dstBox 1) ∗ raw (prv n) (dstBox 3) ∗ raw (prv n) (dstBox 5) ∗ raw (prv n) (dstBox 7))
def sendPay (c : Dev nD) (k : Fin 8) : sProp 𝕄 := held m ρ c (srcBox k) (srcShare k) (srcOrigin k c)
def recvPay (n : Dev nD) (k : Fin 8) : sProp 𝕄 := held m ρ n (dstBox k) fullShare (origin k n)

def cellDuties (i : Fin 17) : Finset Bool := if i = 0 then Finset.univ else {false}
set_option backward.proofsInPublic true in
def cellAmt (i : Fin 17) : ℕ := if i = 0 then 1 else amt ⟨(i.val - 1) % 8, Nat.mod_lt _ (by decide)⟩
set_option backward.proofsInPublic true in
def cellPay (c : Dev nD) (i : Fin 17) (d : Bool) : sProp 𝕄 :=
  if i = 0 then barPay c d
  else if i.val ≤ 8 then sendPay m ρ c ⟨(i.val - 1) % 8, Nat.mod_lt _ (by decide)⟩
  else recvPay m ρ c ⟨(i.val - 1) % 8, Nat.mod_lt _ (by decide)⟩

instance cellPay_storable (c : Dev nD) (i : Fin 17) (d : Bool) : BI.Storable (upEmb : UEmb _ 𝕄) (cellPay (F := F) m ρ c i d) := by
  unfold cellPay sendPay recvPay
  cases d <;> unfold barPay <;> (repeat' split) <;> infer_instance

/-- One round: the barrier cell's two duties of one unit, every send and receive cell's one duty of the transfer's credit. -/
def ringRd : Rounds.Schedule (GSem nD τ sig) Bool 𝕄 where
  duties g r := if r = 0 ∧ g.1.2 = .tc then (semIx g.2).elim ∅ cellDuties else ∅
  unitless _ := False
  amount g _ _ := (semIx g.2).elim 1 cellAmt
  payload g _ d := (semIx g.2).elim iprop(emp) fun i => cellPay m ρ g.1.1 i d
  amount_pos g _ _ _ := by
    cases semIx g.2 with
    | none => exact Nat.one_pos
    | some i => show 0 < cellAmt i; unfold cellAmt; split; · exact Nat.one_pos
                exact amt_pos _

instance ringRd_payload_storable (g : GSem nD τ sig) (r : ℕ) (d : Bool) :
    BI.Storable (upEmb : UEmb _ 𝕄) ((ringRd (F := F) m ρ).payload g r d) := by
  show BI.Storable upEmb ((semIx g.2).elim iprop(emp) fun i => cellPay m ρ g.1.1 i d)
  cases semIx g.2 with
  | none => show BI.Storable upEmb (iprop(emp) : sProp 𝕄); infer_instance
  | some i => show BI.Storable upEmb (cellPay m ρ g.1.1 i d); infer_instance

section Sched
variable (c : Dev nD)

theorem duties_at (i : Fin 17) : (ringRd (F := F) m ρ).duties (kcell (c, i)) 0 = cellDuties i := by
  dsimp only [ringRd]; rw [if_pos ⟨rfl, rfl⟩, semIx_csem]; rfl
theorem duties_later (g : GSem nD τ sig) : ∀ r, 1 ≤ r → (ringRd (F := F) m ρ).duties g r = ∅ :=
  fun r hr => by dsimp only [ringRd]; rw [if_neg fun h => by omega]
theorem amount_at (i : Fin 17) (d : Bool) : (ringRd (F := F) m ρ).amount (kcell (c, i)) 0 d = cellAmt i := by
  dsimp only [ringRd]; rw [semIx_csem]; rfl
theorem payload_at (i : Fin 17) (d : Bool) : (ringRd (F := F) m ρ).payload (kcell (c, i)) 0 d = cellPay m ρ c i d := by
  dsimp only [ringRd]; rw [semIx_csem]; rfl

theorem cellAmt_s (k : Fin 8) : cellAmt (sIx k) = amt k := by
  unfold cellAmt sIx; rw [if_neg (fun h => by have := congrArg Fin.val h; simp at this)]
  congr 1; exact Fin.ext (by show (1 + k.val - 1) % 8 = k.val; omega)
theorem cellAmt_r (k : Fin 8) : cellAmt (rIx k) = amt k := by
  unfold cellAmt rIx; rw [if_neg (fun h => by have := congrArg Fin.val h; simp at this)]
  congr 1; exact Fin.ext (by show (9 + k.val - 1) % 8 = k.val; omega)
theorem cellPay_s (k : Fin 8) (d : Bool) : cellPay m ρ c (sIx k) d = sendPay m ρ c k := by
  unfold cellPay sIx
  rw [if_neg (fun h => by have := congrArg Fin.val h; simp at this), if_pos (by show 1 + k.val ≤ 8; omega)]
  congr 1; exact Fin.ext (by show (1 + k.val - 1) % 8 = k.val; omega)
theorem cellPay_r (k : Fin 8) (d : Bool) : cellPay m ρ c (rIx k) d = recvPay m ρ c k := by
  unfold cellPay rIx
  rw [if_neg (fun h => by have := congrArg Fin.val h; simp at this), if_neg (by show ¬ 9 + k.val ≤ 8; omega)]
  congr 1; exact Fin.ext (by show (9 + k.val - 1) % 8 = k.val; omega)
theorem cellDuties_s (k : Fin 8) : cellDuties (sIx k) = {false} := by revert k; decide
theorem cellDuties_r (k : Fin 8) : cellDuties (rIx k) = {false} := by revert k; decide

theorem expect_bar : (ringRd (F := F) m ρ).expect (kcell (c, 0)) 0 = 2 := by
  unfold Schedule.expect Schedule.amountOf
  rw [duties_at, Finset.sum_congr rfl fun d _ => amount_at m ρ c 0 d]; rfl
theorem expect_s (k : Fin 8) : (ringRd (F := F) m ρ).expect (kcell (c, sIx k)) 0 = amt k := by
  unfold Schedule.expect Schedule.amountOf; rw [duties_at, cellDuties_s, Finset.sum_singleton, amount_at, cellAmt_s]
theorem expect_r (k : Fin 8) : (ringRd (F := F) m ρ).expect (kcell (c, rIx k)) 0 = amt k := by
  unfold Schedule.expect Schedule.amountOf; rw [duties_at, cellDuties_r, Finset.sum_singleton, amount_at, cellAmt_r]

/-- The barrier cell's round gives both neighbours' boxes. -/
theorem rest_bar : bigSep ((ringRd (F := F) m ρ).duties (kcell (c, 0)) 0 \ ∅) (fun d => (ringRd (F := F) m ρ).payload (kcell (c, 0)) 0 d)
    = iprop(barPay c false ∗ barPay c true) := by
  rw [Finset.sdiff_empty, duties_at, show cellDuties 0 = Finset.univ from rfl, bigSep_univ_eq_bigSepL [false, true] (by decide) (by decide), bigSepL_cons_cons, bigSepL_singleton,
    payload_at, payload_at]
  rfl
theorem rest_s (k : Fin 8) : bigSep ((ringRd (F := F) m ρ).duties (kcell (c, sIx k)) 0 \ ∅) (fun d => (ringRd (F := F) m ρ).payload (kcell (c, sIx k)) 0 d)
    = sendPay m ρ c k := by
  rw [Finset.sdiff_empty, duties_at, cellDuties_s, bigSep_singleton, payload_at, cellPay_s]
theorem rest_r (k : Fin 8) : bigSep ((ringRd (F := F) m ρ).duties (kcell (c, rIx k)) 0 \ ∅) (fun d => (ringRd (F := F) m ρ).payload (kcell (c, rIx k)) 0 d)
    = recvPay m ρ c k := by
  rw [Finset.sdiff_empty, duties_at, cellDuties_r, bigSep_singleton, payload_at, cellPay_r]

end Sched

/-! ## What each device owes; the levels -/

set_option backward.proofsInPublic true in
/-- Device `c` owes the receive cells of its last `n` transfers their credit, the earliest of them on top. -/
def Ow (c : Dev nD) : ℕ → CellTallies nD τ sig Unit
  | 0 => 0
  | n + 1 => Ow c n + tallyAt (kcell (peer ⟨7 - n, by omega⟩ c, rIx ⟨7 - n, by omega⟩)) () (amt ⟨7 - n, by omega⟩)

theorem Ow_push (c : Dev nD) (k : Fin 8) :
    Ow c (8 - k.val) = Ow c (7 - k.val) + tallyAt (kcell (peer k c, rIx k)) () (amt k) := by
  match k with
  | 0 => rfl | 1 => rfl | 2 => rfl | 3 => rfl | 4 => rfl | 5 => rfl | 6 => rfl | 7 => rfl

/-- At launch a device owes its eight receivers their credits and both neighbours' barrier cells a unit. -/
def O₁ (c : Dev nD) : CellTallies nD τ sig Unit := Ow c 8 + tallyAt (kcell (nxt c, 0)) () 1
def O₀ (c : Dev nD) : CellTallies nD τ sig Unit := O₁ c + tallyAt (kcell (prv c, 0)) () 1

def L (g : GSem nD τ sig) : Finset Unit := if g.1.2 = .tc then {()} else ∅
/-- Staging and send cells at 0, barrier cells at 1, receive cell `k` at `k + 2`. -/
def ixLv (i : Fin 17) : ℕ := if i = 0 then 1 else if i.val ≤ 8 then 0 else i.val - 7
def lv (g : GSem nD τ sig) (_ : Unit) : ℕ := (semIx g.2).elim 0 ixLv

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × Fin 17) (u : Unit) : lv (kcell ck) u = ixLv ck.2 := by unfold lv; rw [semIx_csem]; rfl
theorem ixLv_r (k : Fin 8) : ixLv (rIx k) = k.val + 2 := by revert k; decide

theorem Ow_pos {c : Dev nD} {n : ℕ} {g : GSem nD τ sig} {u : Unit} (h : 0 < Ow c n g u) :
    ∃ k : Fin 8, 8 ≤ k.val + n ∧ g = kcell (peer k c, rIx k) := by
  induction n with
  | zero => exact absurd h (Nat.lt_irrefl 0)
  | succ n ih =>
    unfold Ow at h
    rw [Pi.add_apply, Finsupp.add_apply, tallyAt_apply] at h
    by_cases hn : 0 < Ow c n g u
    · obtain ⟨k, hk, e⟩ := ih hn
      exact ⟨k, by omega, e⟩
    · by_cases he : g = kcell (peer ⟨7 - n, by omega⟩ c, rIx ⟨7 - n, by omega⟩) ∧ u = ()
      · exact ⟨_, by show 8 ≤ 7 - n + (n + 1); omega, he.1⟩
      · rw [if_neg he] at h; omega

/-- What is owed at launch is owed to a receive cell or to a barrier cell. -/
theorem O₀_pos {c : Dev nD} {g : GSem nD τ sig} {u : Unit} (h : 0 < O₀ c g u) :
    (∃ k : Fin 8, g = kcell (peer k c, rIx k)) ∨ g = kcell (prv c, 0) ∨ g = kcell (nxt c, 0) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.2 h'.1), if_neg (fun h' => hn.2.1 h'.1)] at h
  obtain ⟨k, -, e⟩ := Ow_pos (show 0 < Ow c 8 g u by simpa only [Nat.add_zero] using h)
  exact hn.1 ⟨k, e⟩

omit [FloatOps F] in
/-- Waiting on a cell of level 0 is allowed whatever is owed of the protocol. -/
theorem mayWait_low (c : Dev nD) (sm : SemLoc sig) (hq : (semIx sm).elim 0 ixLv = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact le_of_eq hq)
      (fun g u hg => by
        rcases O₀_pos hg with ⟨k, rfl⟩ | rfl | rfl
        · rw [lv_at]; show 0 < ixLv (rIx k); rw [ixLv_r]; omega
        · rw [lv_at]; exact Nat.one_pos
        · rw [lv_at]; exact Nat.one_pos)
  · rw [MayWait_zero]; iintro -; iempintro

omit [FloatOps F] in
/-- Waiting on the barrier cell is allowed while only transfers are owed. -/
theorem mayWait_bar (c : Dev nD) : (levAts L lv : sProp 𝕄) ⊢ MayWait (c : Thread nD τ) (csem 0) () (Ow c 8) :=
  MayOwe.of_cut (L := L) (lev := lv) 1 (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp]; exact le_of_eq (lv_at (c, 0) ()))
    (fun g u hg => by obtain ⟨k, -, rfl⟩ := Ow_pos hg; rw [lv_at]; show 1 < ixLv (rIx k); rw [ixLv_r]; omega)

omit [FloatOps F] in
/-- Waiting on receive cell `k` is allowed while only later transfers are owed. -/
theorem mayWait_r (c : Dev nD) (k : Fin 8) (n : ℕ) (hn : k.val + n < 8) :
    (levAts L lv : sProp 𝕄) ⊢ MayWait (c : Thread nD τ) (csem (rIx k)) () (Ow c n) :=
  MayOwe.of_cut (L := L) (lev := lv) (k.val + 2) (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp]; exact le_of_eq ((lv_at (c, rIx k) ()).trans (ixLv_r k)))
    (fun g u hg => by obtain ⟨k', hk, rfl⟩ := Ow_pos hg; rw [lv_at]; show k.val + 2 < ixLv (rIx k'); rw [ixLv_r]; omega)

end Cert.RingProof

end
-- ==== Proof.Attend.lean ====
/-
# `Attend`: one effect of the attention at a time

The rules by which the blocks of the attention are run: a load of keys or values, the unused load in front of a store, and
the store of a block's outputs or of its sums, which moves the count of stores done.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A whole staging buffer's points-to. -/
abbrev stgPts (c : Dev nD) (b : Ref sig .tc) (f : Buf (Elt F) ((c : Thread nD τ).loc b)) : sProp 𝕄 :=
  ((c : Thread nD τ).loc b) ↦{fullShare} f

/-- The state of the attention on half `b` after `n` stores: keys and values staged, and the half's box of slot 0. -/
def att (q : FVec F S256x1024 .f32) (K V : S1x16x4x64x8x128.Idx → F .f32) (c : Dev nD) (b n : ℕ) : sProp 𝕄 :=
  iprop(stgPts c cc0_stg2_0 K ∗ stgPts c cc0_stg3_0 V
    ∗ ∃ f : Buf (Elt F) ((commM : Memref sig .tc .vmem S4x256x1280 .bf16).view.loc (c : Thread nD τ)), ⌜Upto q K V b n f⌝
        ∗ ((commM : Memref sig .tc .vmem S4x256x1280 .bf16).view.loc (c : Thread nD τ) ↦[ownBx b]{fullShare} f))

section Rules
variable {q : FVec F S256x1024 .f32} {K V : S1x16x4x64x8x128.Idx → F .f32} {c : Dev nD} {b n : ℕ}
  {R : sProp (MT nD τ sig Unit (Elt F) ℕ UU ℕ)} {α : Type} {Q : α → sProp (MT nD τ sig Unit (Elt F) ℕ UU ℕ)}

/-- A load of keys. -/
theorem att_loadK (j : Fin 4) (h : Fin 8) {off : Fin 6 → ℕ} (hoff : off = ![0, 0, j.val, 0, h.val, 0])
    {inb : ∀ a, off a + S1x16x1x64x1x128.size a ≤ S1x16x4x64x8x128.size a}
    {hl} {k : Vec F S1x16x1x64x1x128 .f32 → Prog (TpuEff nD τ sig (Elt F) Λ₀ .tc) α}
    (hk : iprop(att q K V c b n ∗ R) ⊢ WP c (k (kvCut K j h)) Q) :
    iprop(att q K V c b n ∗ R)
      ⊢ WP c (.op (.load kM (Rect.unit (s := S1x16x4x64x8x128) off S1x16x1x64x1x128.size inb).toLoadRect hl) k) Q := by
  subst hoff
  iintro ⟨Hatt, HR⟩
  unfold att
  icases Hatt with ⟨HK, Hrest⟩
  iapply (wp_load 𝒱₀ (c : Thread nD τ) none Set.univ (m := kM) (Finset.subset_univ _)) $$ HK
  iintro HK
  iapply hk
  unfold att
  isplitl [HK Hrest]
  · isplitl [HK]; · iexact HK
    iexact Hrest
  iexact HR

/-- A load of values. -/
theorem att_loadV (j : Fin 4) (h : Fin 8) {off : Fin 6 → ℕ} (hoff : off = ![0, 0, j.val, 0, h.val, 0])
    {inb : ∀ a, off a + S1x16x1x64x1x128.size a ≤ S1x16x4x64x8x128.size a}
    {hl} {k : Vec F S1x16x1x64x1x128 .f32 → Prog (TpuEff nD τ sig (Elt F) Λ₀ .tc) α}
    (hk : iprop(att q K V c b n ∗ R) ⊢ WP c (k (kvCut V j h)) Q) :
    iprop(att q K V c b n ∗ R)
      ⊢ WP c (.op (.load vM (Rect.unit (s := S1x16x4x64x8x128) off S1x16x1x64x1x128.size inb).toLoadRect hl) k) Q := by
  subst hoff
  iintro ⟨Hatt, HR⟩
  unfold att
  icases Hatt with ⟨HK, HV, Hrest⟩
  iapply (wp_load 𝒱₀ (c : Thread nD τ) none Set.univ (m := vM) (Finset.subset_univ _)) $$ HV
  iintro HV
  iapply hk
  unfold att
  isplitl [HK HV Hrest]
  · isplitl [HK]; · iexact HK
    isplitl [HV]; · iexact HV
    iexact Hrest
  iexact HR

/-- The unused load in front of a store of outputs. -/
theorem att_peekO (hn : n < 32) {off : Fin 3 → ℕ} (hoff : off = offO b n)
    {inb : ∀ a, off a + S1x64x128.size a ≤ S4x256x1280.size a}
    {hl} {k : Vec F S1x64x128 .bf16 → Prog (TpuEff nD τ sig (Elt F) Λ₀ .tc) α}
    (hk : ∀ v, iprop(att q K V c b n ∗ R) ⊢ WP c (k v) Q) :
    iprop(att q K V c b n ∗ R)
      ⊢ WP c (.op (.load commM (Rect.unit (s := S4x256x1280) off S1x64x128.size inb).toLoadRect hl) k) Q := by
  iintro ⟨Hatt, HR⟩
  unfold att
  icases Hatt with ⟨HK, HV, ⟨%f, %hf, Hc⟩⟩
  iapply (wp_load_rect 𝒱₀ (c : Thread nD τ) none Set.univ (m := commM) (r := Rect.unit (s := S4x256x1280) off S1x64x128.size inb) (S := ownBx b) ((View.set_slice_whole _ _).trans_subset (offO_sub hn hoff inb))) $$ Hc
  iintro Hc
  iapply (hk _)
  unfold att
  isplitl [HK HV Hc]
  · isplitl [HK]; · iexact HK
    isplitl [HV]; · iexact HV
    iexists f; isplitr; · ipureintro; exact hf
    iexact Hc
  iexact HR

/-- The unused load in front of a store of sums. -/
theorem att_peekL (hn : n < 32) {off : Fin 3 → ℕ} (hoff : off = offL b n)
    {inb : ∀ a, off a + S1x64x1.size a ≤ S4x256x1280.size a}
    {hl} {k : Vec F S1x64x1 .bf16 → Prog (TpuEff nD τ sig (Elt F) Λ₀ .tc) α}
    (hk : ∀ v, iprop(att q K V c b n ∗ R) ⊢ WP c (k v) Q) :
    iprop(att q K V c b n ∗ R)
      ⊢ WP c (.op (.load commM (Rect.unit (s := S4x256x1280) off S1x64x1.size inb).toLoadRect hl) k) Q := by
  iintro ⟨Hatt, HR⟩
  unfold att
  icases Hatt with ⟨HK, HV, ⟨%f, %hf, Hc⟩⟩
  iapply (wp_load_rect 𝒱₀ (c : Thread nD τ) none Set.univ (m := commM) (r := Rect.unit (s := S4x256x1280) off S1x64x1.size inb) (S := ownBx b) ((View.set_slice_whole _ _).trans_subset (offL_sub hn hoff inb))) $$ Hc
  iintro Hc
  iapply (hk _)
  unfold att
  isplitl [HK HV Hc]
  · isplitl [HK]; · iexact HK
    isplitl [HV]; · iexact HV
    iexists f; isplitr; · ipureintro; exact hf
    iexact Hc
  iexact HR

/-- The store of a block's outputs. -/
theorem att_storeO (hb : b < 2) (hn : n < 32) (he : n % 2 = 0) {off : Fin 3 → ℕ} (hoff : off = offO b n)
    {inb : ∀ a, off a + S1x64x128.size a ≤ S4x256x1280.size a} {w : S1x64x128.Idx → F .bf16}
    (hw : w = oBlk q K V ⟨n / 2 % 4, by omega⟩ ⟨4 * b + n / 8, by omega⟩)
    {hs} {hu} {k : PUnit → Prog (TpuEff nD τ sig (Elt F) Λ₀ .tc) α}
    (hk : iprop(att q K V c b (n + 1) ∗ R) ⊢ WP c (k ⟨⟩) Q) :
    iprop(att q K V c b n ∗ R)
      ⊢ WP c (.op (.store commM (Rect.unit (s := S4x256x1280) off S1x64x128.size inb) w Finset.univ hs hu) k) Q := by
  iintro ⟨Hatt, HR⟩
  unfold att
  icases Hatt with ⟨HK, HV, ⟨%f, %hf, Hc⟩⟩
  iapply (wp_store 𝒱₀ (c : Thread nD τ) none Set.univ (m := commM) (r := Rect.unit (s := S4x256x1280) off S1x64x128.size inb) (Mk := Finset.univ) (S := ownBx b) (((accSet inb rfl).trans (unit_set_eq inb rfl).symm).trans_subset (offO_sub hn hoff inb))) $$ Hc
  iintro Hc
  iapply hk
  unfold att
  isplitl [HK HV Hc]
  · isplitl [HK]; · iexact HK
    isplitl [HV]; · iexact HV
    iexists _; isplitr; swap; · iexact Hc
    ipureintro; exact hf.storeO hb hn he hoff inb hw
  iexact HR

/-- The store of a block's sums. -/
theorem att_storeL (hb : b < 2) (hn : n < 32) (he : n % 2 = 1) {off : Fin 3 → ℕ} (hoff : off = offL b n)
    {inb : ∀ a, off a + S1x64x1.size a ≤ S4x256x1280.size a} {w : S1x64x1.Idx → F .bf16}
    (hw : w = lBlk q K ⟨n / 2 % 4, by omega⟩ ⟨4 * b + n / 8, by omega⟩)
    {hs} {hu} {k : PUnit → Prog (TpuEff nD τ sig (Elt F) Λ₀ .tc) α}
    (hk : iprop(att q K V c b (n + 1) ∗ R) ⊢ WP c (k ⟨⟩) Q) :
    iprop(att q K V c b n ∗ R)
      ⊢ WP c (.op (.store commM (Rect.unit (s := S4x256x1280) off S1x64x1.size inb) w Finset.univ hs hu) k) Q := by
  iintro ⟨Hatt, HR⟩
  unfold att
  icases Hatt with ⟨HK, HV, ⟨%f, %hf, Hc⟩⟩
  iapply (wp_store 𝒱₀ (c : Thread nD τ) none Set.univ (m := commM) (r := Rect.unit (s := S4x256x1280) off S1x64x1.size inb) (Mk := Finset.univ) (S := ownBx b) (((accSet inb rfl).trans (unit_set_eq inb rfl).symm).trans_subset (offL_sub hn hoff inb))) $$ Hc
  iintro Hc
  iapply hk
  unfold att
  isplitl [HK HV Hc]
  · isplitl [HK]; · iexact HK
    isplitl [HV]; · iexact HV
    iexists _; isplitr; swap; · iexact Hc
    ipureintro; exact hf.storeL hb hn he hoff inb hw
  iexact HR

end Rules

end Cert.RingProof

end
-- ==== Proof.Parts.lean ====
/-
# `Parts`: the attention's parts

Each of the kernel's parts that only attends, run over the rules of `Attend`: it starts at a number of stores done and ends
at a larger one, handing the next part the values it has computed, written from the queries, keys and values.
-/
module

public import proofs.«01_k».proof.Proof.Attend

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {q : FVec F S256x1024 .f32} {K V : S1x16x4x64x8x128.Idx → F .f32} {c : Dev nD}
  {R : sProp (MT nD τ sig Unit (Elt F) ℕ UU ℕ)} {α : Type} {Q : α → sProp (MT nD τ sig Unit (Elt F) ℕ UU ℕ)}

/-- Part 2 does stores 0 to 2 of half 0. -/
theorem run_part2 {k : (Σ' (v50 : FVec F S64x1 .f32), FVec F S64x128 .bf16) → Prog (TpuEff nD τ sig (Elt F) Λ₀ .tc) α}
    (hk : iprop(att q K V c 0 2 ∗ R) ⊢ WP c (k ⟨k0_pay8 q (kvCut K 1 0), k0_pay9 q (kvCut K 1 0) (kvCut V 1 0)⟩) Q) :
    iprop(att q K V c 0 0 ∗ R)
      ⊢ WP c (k0_part2 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (qCut q 0 0) (k0_pay3 (kvCut K 0 0)) >>= k) Q := by
  rw [k0_part2_eq_skeleton]; unfold k0_part2_skel
  simp only [Prog.lift, Prog.bind_op, Prog.bind_ret, Prog.pure_eq_ret]
  refine att_loadV 0 0 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 0 rfl ?_
  refine att_loadV 1 0 rfl ?_
  exact hk

/-- Part 3 does stores 2 to 6 of half 0. -/
theorem run_part3 {k : FVec F S64x128 .f32 → Prog (TpuEff nD τ sig (Elt F) Λ₀ .tc) α}
    (hk : iprop(att q K V c 0 6 ∗ R) ⊢ WP c (k (k0_pay15 q)) Q) :
    iprop(att q K V c 0 2 ∗ R)
      ⊢ WP c (k0_part3 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay8 q (kvCut K 1 0)) (k0_pay9 q (kvCut K 1 0) (kvCut V 1 0)) >>= k) Q := by
  rw [k0_part3_eq_skeleton]; unfold k0_part3_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 2 0 rfl ?_
  refine att_loadV 2 0 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  exact hk

/-- Part 4 does stores 6 to 8 of half 0. -/
theorem run_part4 {k : (Σ' (v106 : FVec F S1024x128 .f32), FVec F S64x1024 .f32) → Prog (TpuEff nD τ sig (Elt F) Λ₀ .tc) α}
    (hk : iprop(att q K V c 0 8 ∗ R) ⊢ WP c (k ⟨k0_pay19 (kvCut V 0 1), k0_pay20 q (kvCut K 0 1)⟩) Q) :
    iprop(att q K V c 0 6 ∗ R)
      ⊢ WP c (k0_part4 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay15 q) >>= k) Q := by
  rw [k0_part4_eq_skeleton]; unfold k0_part4_skel
  simp only [Prog.lift, Prog.bind_op, Prog.bind_ret, Prog.pure_eq_ret]
  refine att_loadK 3 0 rfl ?_
  refine att_loadV 3 0 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 0 1 rfl ?_
  refine att_loadV 0 1 rfl ?_
  exact hk

/-- Part 5 does stores 8 to 11 of half 0. -/
theorem run_part5 {k : FVec F S64x1 .bf16 → Prog (TpuEff nD τ sig (Elt F) Λ₀ .tc) α}
    (hk : iprop(att q K V c 0 11 ∗ R) ⊢ WP c (k (k0_pay25 q (kvCut K 1 1))) Q) :
    iprop(att q K V c 0 8 ∗ R)
      ⊢ WP c (k0_part5 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay19 (kvCut V 0 1)) (k0_pay20 q (kvCut K 0 1)) >>= k) Q := by
  rw [k0_part5_eq_skeleton]; unfold k0_part5_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 1 rfl ?_
  refine att_loadV 1 1 rfl ?_
  refine att_peekO (by decide) rfl fun _ => ?_
  refine att_storeO (by decide) (by decide) (by decide) rfl rfl ?_
  exact hk

/-- Part 6 does stores 11 to 14 of half 0. -/
theorem run_part6 {k : (Σ' (v160 : FVec F S64x128 .f32), FVec F S1024x128 .f32) → Prog (TpuEff nD τ sig (Elt F) Λ₀ .tc) α}
    (hk : iprop(att q K V c 0 14 ∗ R) ⊢ WP c (k ⟨k0_pay30 q, k0_pay31 (kvCut K 3 1)⟩) Q) :
    iprop(att q K V c 0 11 ∗ R)
      ⊢ WP c (k0_part6 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay25 q (kvCut K 1 1)) >>= k) Q := by
  rw [k0_part6_eq_skeleton]; unfold k0_part6_skel
  simp only [Prog.lift, Prog.bind_op, Prog.bind_ret, Prog.pure_eq_ret]
  refine att_peekL (by decide) rfl fun _ => ?_
  refine att_storeL (by decide) (by decide) (by decide) rfl rfl ?_
  refine att_loadK 2 1 rfl ?_
  refine att_loadV 2 1 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 3 1 rfl ?_
  exact hk

/-- Part 7 does stores 14 to 16 of half 0. -/
theorem run_part7 {k : (Σ' (v190 : FVec F S64x1 .f32), FVec F S64x128 .bf16) → Prog (TpuEff nD τ sig (Elt F) Λ₀ .tc) α}
    (hk : iprop(att q K V c 0 16 ∗ R) ⊢ WP c (k ⟨k0_pay36 q (kvCut K 0 2), k0_pay37 q (kvCut K 0 2) (kvCut V 0 2)⟩) Q) :
    iprop(att q K V c 0 14 ∗ R)
      ⊢ WP c (k0_part7 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay30 q) (k0_pay31 (kvCut K 3 1)) >>= k) Q := by
  rw [k0_part7_eq_skeleton]; unfold k0_part7_skel
  simp only [Prog.lift, Prog.bind_op, Prog.bind_ret, Prog.pure_eq_ret]
  refine att_loadV 3 1 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 0 2 rfl ?_
  refine att_loadV 0 2 rfl ?_
  exact hk

/-- Part 8 does stores 16 to 20 of half 0. -/
theorem run_part8 {k : FVec F S64x128 .f32 → Prog (TpuEff nD τ sig (Elt F) Λ₀ .tc) α}
    (hk : iprop(att q K V c 0 20 ∗ R) ⊢ WP c (k (k0_pay43 q)) Q) :
    iprop(att q K V c 0 16 ∗ R)
      ⊢ WP c (k0_part8 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay36 q (kvCut K 0 2)) (k0_pay37 q (kvCut K 0 2) (kvCut V 0 2)) >>= k) Q := by
  rw [k0_part8_eq_skeleton]; unfold k0_part8_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 2 rfl ?_
  refine att_loadV 1 2 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  exact hk

/-- Part 9 does stores 20 to 22 of half 0. -/
theorem run_part9 {k : (Σ' (v246 : FVec F S1024x128 .f32), FVec F S64x1024 .f32) → Prog (TpuEff nD τ sig (Elt F) Λ₀ .tc) α}
    (hk : iprop(att q K V c 0 22 ∗ R) ⊢ WP c (k ⟨k0_pay47 (kvCut V 3 2), k0_pay48 q (kvCut K 3 2)⟩) Q) :
    iprop(att q K V c 0 20 ∗ R)
      ⊢ WP c (k0_part9 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay43 q) >>= k) Q := by
  rw [k0_part9_eq_skeleton]; unfold k0_part9_skel
  simp only [Prog.lift, Prog.bind_op, Prog.bind_ret, Prog.pure_eq_ret]
  refine att_loadK 2 2 rfl ?_
  refine att_loadV 2 2 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 3 2 rfl ?_
  refine att_loadV 3 2 rfl ?_
  exact hk

/-- Part 10 does stores 22 to 25 of half 0. -/
theorem run_part10 {k : FVec F S64x1 .bf16 → Prog (TpuEff nD τ sig (Elt F) Λ₀ .tc) α}
    (hk : iprop(att q K V c 0 25 ∗ R) ⊢ WP c (k (k0_pay54 q (kvCut K 0 3))) Q) :
    iprop(att q K V c 0 22 ∗ R)
      ⊢ WP c (k0_part10 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay47 (kvCut V 3 2)) (k0_pay48 q (kvCut K 3 2)) >>= k) Q := by
  rw [k0_part10_eq_skeleton]; unfold k0_part10_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 0 3 rfl ?_
  refine att_loadV 0 3 rfl ?_
  refine att_peekO (by decide) rfl fun _ => ?_
  refine att_storeO (by decide) (by decide) (by decide) rfl rfl ?_
  exact hk

/-- Part 11 does stores 25 to 28 of half 0. -/
theorem run_part11 {k : (Σ' (v300 : FVec F S64x128 .f32), FVec F S1024x128 .f32) → Prog (TpuEff nD τ sig (Elt F) Λ₀ .tc) α}
    (hk : iprop(att q K V c 0 28 ∗ R) ⊢ WP c (k ⟨k0_pay59 q, k0_pay60 (kvCut K 2 3)⟩) Q) :
    iprop(att q K V c 0 25 ∗ R)
      ⊢ WP c (k0_part11 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay54 q (kvCut K 0 3)) >>= k) Q := by
  rw [k0_part11_eq_skeleton]; unfold k0_part11_skel
  simp only [Prog.lift, Prog.bind_op, Prog.bind_ret, Prog.pure_eq_ret]
  refine att_peekL (by decide) rfl fun _ => ?_
  refine att_storeL (by decide) (by decide) (by decide) rfl rfl ?_
  refine att_loadK 1 3 rfl ?_
  refine att_loadV 1 3 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 2 3 rfl ?_
  exact hk

/-- Part 12 does stores 28 to 30 of half 0. -/
theorem run_part12 {k : (Σ' (v330 : FVec F S64x1 .f32), FVec F S64x128 .bf16) → Prog (TpuEff nD τ sig (Elt F) Λ₀ .tc) α}
    (hk : iprop(att q K V c 0 30 ∗ R) ⊢ WP c (k ⟨k0_pay65 q (kvCut K 3 3), k0_pay66 q (kvCut K 3 3) (kvCut V 3 3)⟩) Q) :
    iprop(att q K V c 0 28 ∗ R)
      ⊢ WP c (k0_part12 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay59 q) (k0_pay60 (kvCut K 2 3)) >>= k) Q := by
  rw [k0_part12_eq_skeleton]; unfold k0_part12_skel
  simp only [Prog.lift, Prog.bind_op, Prog.bind_ret, Prog.pure_eq_ret]
  refine att_loadV 2 3 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 3 3 rfl ?_
  refine att_loadV 3 3 rfl ?_
  exact hk

/-- Part 14 does stores 0 to 2 of half 1. -/
theorem run_part14 {k : (Σ' (v386 : FVec F S1024x128 .f32), FVec F S64x1024 .f32) → Prog (TpuEff nD τ sig (Elt F) Λ₀ .tc) α}
    (hk : iprop(att q K V c 1 2 ∗ R) ⊢ WP c (k ⟨k0_pay73 (kvCut V 1 4), k0_pay74 q (kvCut K 1 4)⟩) Q) :
    iprop(att q K V c 1 0 ∗ R)
      ⊢ WP c (k0_part14 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay69 q) >>= k) Q := by
  rw [k0_part14_eq_skeleton]; unfold k0_part14_skel
  simp only [Prog.lift, Prog.bind_op, Prog.bind_ret, Prog.pure_eq_ret]
  refine att_loadK 0 4 rfl ?_
  refine att_loadV 0 4 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 4 rfl ?_
  refine att_loadV 1 4 rfl ?_
  exact hk

/-- Part 15 does stores 2 to 5 of half 1. -/
theorem run_part15 {k : FVec F S64x1 .bf16 → Prog (TpuEff nD τ sig (Elt F) Λ₀ .tc) α}
    (hk : iprop(att q K V c 1 5 ∗ R) ⊢ WP c (k (k0_pay80 q (kvCut K 2 4))) Q) :
    iprop(att q K V c 1 2 ∗ R)
      ⊢ WP c (k0_part15 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay73 (kvCut V 1 4)) (k0_pay74 q (kvCut K 1 4)) >>= k) Q := by
  rw [k0_part15_eq_skeleton]; unfold k0_part15_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 2 4 rfl ?_
  refine att_loadV 2 4 rfl ?_
  refine att_peekO (by decide) rfl fun _ => ?_
  refine att_storeO (by decide) (by decide) (by decide) rfl rfl ?_
  exact hk

/-- Part 16 does stores 5 to 8 of half 1. -/
theorem run_part16 {k : (Σ' (v440 : FVec F S64x128 .f32), FVec F S1024x128 .f32) → Prog (TpuEff nD τ sig (Elt F) Λ₀ .tc) α}
    (hk : iprop(att q K V c 1 8 ∗ R) ⊢ WP c (k ⟨k0_pay85 q, k0_pay86 (kvCut K 0 5)⟩) Q) :
    iprop(att q K V c 1 5 ∗ R)
      ⊢ WP c (k0_part16 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay80 q (kvCut K 2 4)) >>= k) Q := by
  rw [k0_part16_eq_skeleton]; unfold k0_part16_skel
  simp only [Prog.lift, Prog.bind_op, Prog.bind_ret, Prog.pure_eq_ret]
  refine att_peekL (by decide) rfl fun _ => ?_
  refine att_storeL (by decide) (by decide) (by decide) rfl rfl ?_
  refine att_loadK 3 4 rfl ?_
  refine att_loadV 3 4 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 0 5 rfl ?_
  exact hk

/-- Part 17 does stores 8 to 10 of half 1. -/
theorem run_part17 {k : (Σ' (v470 : FVec F S64x1 .f32), FVec F S64x128 .bf16) → Prog (TpuEff nD τ sig (Elt F) Λ₀ .tc) α}
    (hk : iprop(att q K V c 1 10 ∗ R) ⊢ WP c (k ⟨k0_pay91 q (kvCut K 1 5), k0_pay92 q (kvCut K 1 5) (kvCut V 1 5)⟩) Q) :
    iprop(att q K V c 1 8 ∗ R)
      ⊢ WP c (k0_part17 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay85 q) (k0_pay86 (kvCut K 0 5)) >>= k) Q := by
  rw [k0_part17_eq_skeleton]; unfold k0_part17_skel
  simp only [Prog.lift, Prog.bind_op, Prog.bind_ret, Prog.pure_eq_ret]
  refine att_loadV 0 5 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 5 rfl ?_
  refine att_loadV 1 5 rfl ?_
  exact hk

/-- Part 18 does stores 10 to 14 of half 1. -/
theorem run_part18 {k : FVec F S64x128 .f32 → Prog (TpuEff nD τ sig (Elt F) Λ₀ .tc) α}
    (hk : iprop(att q K V c 1 14 ∗ R) ⊢ WP c (k (k0_pay98 q)) Q) :
    iprop(att q K V c 1 10 ∗ R)
      ⊢ WP c (k0_part18 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay91 q (kvCut K 1 5)) (k0_pay92 q (kvCut K 1 5) (kvCut V 1 5)) >>= k) Q := by
  rw [k0_part18_eq_skeleton]; unfold k0_part18_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 2 5 rfl ?_
  refine att_loadV 2 5 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  exact hk

/-- Part 21 does stores 16 to 18 of half 1. -/
theorem run_part21 {k : (Σ' (v576 : FVec F S64x128 .f32) (v579 : FVec F S1024x128 .f32), Vec F S1x16x1x64x1x128 .f32) → Prog (TpuEff nD τ sig (Elt F) Λ₀ .tc) α}
    (hk : iprop(att q K V c 1 18 ∗ R) ⊢ WP c (k ⟨k0_pay105 q, k0_pay106 (kvCut K 1 6), (kvCut V 1 6)⟩) Q) :
    iprop(att q K V c 1 16 ∗ R)
      ⊢ WP c (k0_part21 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q >>= k) Q := by
  rw [k0_part21_eq_skeleton]; unfold k0_part21_skel
  simp only [Prog.lift, Prog.bind_op, Prog.bind_ret, Prog.pure_eq_ret]
  refine att_loadK 0 6 rfl ?_
  refine att_loadV 0 6 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 6 rfl ?_
  refine att_loadV 1 6 rfl ?_
  exact hk

/-- Part 22 does stores 18 to 20 of half 1. -/
theorem run_part22 {k : (Σ' (v606 : FVec F S64x1 .f32), FVec F S1x64x128 .bf16) → Prog (TpuEff nD τ sig (Elt F) Λ₀ .tc) α}
    (hk : iprop(att q K V c 1 20 ∗ R) ⊢ WP c (k ⟨k0_pay111 q (kvCut K 2 6), k0_pay112 q (kvCut K 2 6) (kvCut V 2 6)⟩) Q) :
    iprop(att q K V c 1 18 ∗ R)
      ⊢ WP c (k0_part22 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay105 q) (k0_pay106 (kvCut K 1 6)) (kvCut V 1 6) >>= k) Q := by
  rw [k0_part22_eq_skeleton]; unfold k0_part22_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 2 6 rfl ?_
  refine att_loadV 2 6 rfl ?_
  refine att_peekO (by decide) rfl fun _ => ?_
  exact hk

/-- Part 23 does stores 20 to 24 of half 1. -/
theorem run_part23 {k : (Σ' (v636 : FVec F S64x128 .f32), Vec F S1x16x1x64x1x128 .f32) → Prog (TpuEff nD τ sig (Elt F) Λ₀ .tc) α}
    (hk : iprop(att q K V c 1 24 ∗ R) ⊢ WP c (k ⟨k0_pay117 q, (kvCut K 0 7)⟩) Q) :
    iprop(att q K V c 1 20 ∗ R)
      ⊢ WP c (k0_part23 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay111 q (kvCut K 2 6)) (k0_pay112 q (kvCut K 2 6) (kvCut V 2 6)) >>= k) Q := by
  rw [k0_part23_eq_skeleton]; unfold k0_part23_skel
  simp only [Prog.lift, Prog.bind_op, Prog.bind_ret, Prog.pure_eq_ret]
  refine att_storeO (by decide) (by decide) (by decide) rfl rfl ?_
  refine att_peekL (by decide) rfl fun _ => ?_
  refine att_storeL (by decide) (by decide) (by decide) rfl rfl ?_
  refine att_loadK 3 6 rfl ?_
  refine att_loadV 3 6 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 0 7 rfl ?_
  exact hk

/-- Part 24 does stores 24 to 26 of half 1. -/
theorem run_part24 {k : (Σ' (v662 : FVec F S1024x128 .f32) (v664 : FVec F S64x1024 .f32), FVec F S64x1 .f32) → Prog (TpuEff nD τ sig (Elt F) Λ₀ .tc) α}
    (hk : iprop(att q K V c 1 26 ∗ R) ⊢ WP c (k ⟨k0_pay121 (kvCut V 1 7), k0_pay122 q (kvCut K 1 7), k0_pay123 q (kvCut K 1 7)⟩) Q) :
    iprop(att q K V c 1 24 ∗ R)
      ⊢ WP c (k0_part24 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay117 q) (kvCut K 0 7) >>= k) Q := by
  rw [k0_part24_eq_skeleton]; unfold k0_part24_skel
  simp only [Prog.lift, Prog.bind_op, Prog.bind_ret, Prog.pure_eq_ret]
  refine att_loadV 0 7 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 1 7 rfl ?_
  refine att_loadV 1 7 rfl ?_
  exact hk

/-- Part 25 does stores 26 to 29 of half 1. -/
theorem run_part25 {k : FVec F S1x64x1 .bf16 → Prog (TpuEff nD τ sig (Elt F) Λ₀ .tc) α}
    (hk : iprop(att q K V c 1 29 ∗ R) ⊢ WP c (k (k0_pay128 q (kvCut K 2 7))) Q) :
    iprop(att q K V c 1 26 ∗ R)
      ⊢ WP c (k0_part25 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 q (k0_pay121 (kvCut V 1 7)) (k0_pay122 q (kvCut K 1 7)) (k0_pay123 q (kvCut K 1 7)) >>= k) Q := by
  rw [k0_part25_eq_skeleton]; unfold k0_part25_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  refine att_loadK 2 7 rfl ?_
  refine att_loadV 2 7 rfl ?_
  refine att_peekO (by decide) rfl fun _ => ?_
  refine att_storeO (by decide) (by decide) (by decide) rfl rfl ?_
  refine att_peekL (by decide) rfl fun _ => ?_
  exact hk

/-- Part 26 does stores 29 to 32 of half 1. -/
theorem run_part26 (w7 : BitVec 32) {k : PUnit → Prog (TpuEff nD τ sig (Elt F) Λ₀ .tc) α}
    (hk : iprop(att q K V c 1 32 ∗ R) ⊢ WP c (k ⟨⟩) Q) :
    iprop(att q K V c 1 29 ∗ R)
      ⊢ WP c (k0_part26 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 w7 q (k0_pay128 q (kvCut K 2 7)) >>= k) Q := by
  rw [k0_part26_eq_skeleton]; unfold k0_part26_skel
  simp only [Prog.lift, Prog.bind_op, Prog.bind_ret, Prog.pure_eq_ret]
  refine att_storeL (by decide) (by decide) (by decide) rfl rfl ?_
  refine att_loadK 3 7 rfl ?_
  refine att_loadV 3 7 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  exact hk

end Cert.RingProof

end
-- ==== Proof.Ring.lean ====
/-
# `Ring`: one effect of the exchange at a time

The rules by which the transfers are run: starting transfer `k`, waiting for what arrives with it, waiting for its source
share to come back; and the splitting and joining of the exchange buffer's boxes and shares.
-/
module

public import proofs.«01_k».proof.Proof.Attend

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-! ## Boxes and shares -/

abbrev cLoc (c : Dev nD) : Loc nD τ sig := (commM : Memref sig .tc .vmem S4x256x1280 .bf16).view.loc (c : Thread nD τ)

/-- Device `c`'s buffer on `S` at share `q`, at some contents. -/
def anyAt (c : Dev nD) (S : Finset S4x256x1280.Idx) (q : PosShare TreeShare) : sProp 𝕄 :=
  iprop(∃ f : Buf (Elt F) (cLoc c), cLoc c ↦[S]{q} f)

omit [FloatOps F] in
theorem raw_any (c : Dev nD) (S) : (raw c S : sProp 𝕄) = anyAt c S fullShare := rfl

theorem held_any (c : Dev nD) (S q o) : held m ρ c S q o ⊢ anyAt c S q := by
  unfold held anyAt
  iintro ⟨%f, -, H⟩
  iexists f; iexact H

theorem held_share {c : Dev nD} {S o} {q q₁ q₂ : PosShare TreeShare} (h : q ∈ q₁ ·? q₂) :
    held m ρ c S q o ⊢ iprop(held m ρ c S q₁ o ∗ held m ρ c S q₂ o) := by
  unfold held
  iintro ⟨%f, %hf, H⟩
  ihave H' := (pointsTo_share h).1 $$ H
  icases H' with ⟨H1, H2⟩
  isplitl [H1]
  · iexists f; isplitr; · ipureintro; exact hf
    iexact H1
  · iexists f; isplitr; · ipureintro; exact hf
    iexact H2

theorem held_split {c : Dev nD} {S A B o} {q : PosShare TreeShare} (hd : Disjoint A B) (hS : S = A ∪ B) :
    held m ρ c S q o ⊢ iprop(held m ρ c A q o ∗ held m ρ c B q o) := by
  subst hS
  unfold held
  iintro ⟨%f, %hf, H⟩
  ihave H' := (pointsTo_union hd).1 $$ H
  icases H' with ⟨H1, H2⟩
  isplitl [H1]
  · iexists f; isplitr; · ipureintro; exact hf.mono Finset.subset_union_left
    iexact H1
  · iexists f; isplitr; · ipureintro; exact hf.mono Finset.subset_union_right
    iexact H2

theorem held_join {c : Dev nD} {S A B o} {q : PosShare TreeShare} (hd : Disjoint A B) (hS : S = A ∪ B) :
    iprop(held m ρ c A q o ∗ held m ρ c B q o) ⊢ held m ρ c S q o := by
  subst hS
  unfold held
  iintro ⟨⟨%f, %hf, H1⟩, %g, %hg, H2⟩
  iexists _
  isplitr; swap
  · iapply (pointsTo_join hd)
    isplitl [H1] <;> iassumption
  · ipureintro
    intro i hi hu
    by_cases hB : i ∈ B
    · rw [Finset.piecewise_eq_of_mem _ _ _ hB]; exact hg i hB hu
    · rw [Finset.piecewise_eq_of_notMem _ _ _ hB]
      exact hf i ((Finset.mem_union.mp hi).resolve_right hB) hu

omit [FloatOps F] in
theorem any_split {c : Dev nD} {S A B} {q : PosShare TreeShare} (hd : Disjoint A B) (hS : S = A ∪ B) :
    (anyAt c S q : sProp 𝕄) ⊢ iprop(anyAt c A q ∗ anyAt c B q) := by
  subst hS
  unfold anyAt
  iintro ⟨%f, H⟩
  ihave H' := (pointsTo_union hd).1 $$ H
  icases H' with ⟨H1, H2⟩
  isplitl [H1]
  · iexists f; iexact H1
  · iexists f; iexact H2

omit [FloatOps F] in
theorem any_join {c : Dev nD} {S A B} {q : PosShare TreeShare} (hd : Disjoint A B) (hS : S = A ∪ B) :
    iprop(anyAt c A q ∗ anyAt c B q) ⊢ (anyAt c S q : sProp 𝕄) := by
  subst hS
  unfold anyAt
  iintro ⟨⟨%f, H1⟩, %g, H2⟩
  iexists _
  iapply (pointsTo_join hd)
  isplitl [H1] <;> iassumption

omit [FloatOps F] in
theorem any_share {c : Dev nD} {S} {q q₁ q₂ : PosShare TreeShare} (h : q ∈ q₁ ·? q₂) :
    iprop(anyAt c S q₁ ∗ anyAt c S q₂) ⊢ (anyAt c S q : sProp 𝕄) := by
  unfold anyAt
  iintro ⟨⟨%f, H1⟩, %g, H2⟩
  ihave %hfg := (pointsTo_agree (ℓ := cLoc c) (I := S) (J := S) (q₁ := q₁) (q₂ := q₂) (f := f) (g := g)) $$ [H1 H2]
  · isplitl [H1] <;> iassumption
  iexists f
  iapply (pointsTo_share h).2
  isplitl [H1]; · iexact H1
  iapply (Entails.of_eq (pointsTo_congr (fun i hi => (hfg i (Finset.mem_inter.mpr ⟨hi, hi⟩)).1.symm)))
  iexact H2

/-! ## The records every device has -/

/-- Every cell's invariant under the names `K`, and that every cell has reached round 0. -/
def records : sProp 𝕄 :=
  iprop((bigSep Finset.univ fun ck : Dev nD × Fin 17 => cellInv ER (ringRd m ρ) (K ck) (kcell ck))
    ∗ bigSep Finset.univ fun ck : Dev nD × Fin 17 => reached ER (kcell ck) 0)

instance records_persistent : BI.Persistent (records m ρ K) := by unfold records; infer_instance

theorem every_inv (ck : Dev nD × Fin 17) :
    (bigSep Finset.univ fun ck : Dev nD × Fin 17 => (cellInv ER (ringRd m ρ) (K ck) (kcell ck) : sProp 𝕄)) ⊢ cellInv ER (ringRd m ρ) (K ck) (kcell ck) :=
  bigSep_elim (Finset.mem_univ ck)
omit [FloatOps F] in
theorem every_reached (ck : Dev nD × Fin 17) :
    (bigSep Finset.univ fun ck : Dev nD × Fin 17 => (reached ER (kcell ck) 0 : sProp 𝕄)) ⊢ reached ER (kcell ck) 0 :=
  bigSep_elim (Finset.mem_univ ck)
theorem records_inv (ck : Dev nD × Fin 17) : records m ρ K ⊢ cellInv ER (ringRd m ρ) (K ck) (kcell ck) := by
  unfold records; iintro ⟨H, -⟩; iapply (every_inv m ρ K ck); iexact H
theorem records_reached (ck : Dev nD × Fin 17) : records m ρ K ⊢ reached ER (kcell ck) 0 := by
  unfold records; iintro ⟨-, H⟩; iapply (every_reached (F := F) ck); iexact H

/-- Device `c` owes the receivers of its last `n` transfers. -/
def ow (c : Dev nD) (n : ℕ) : sProp 𝕄 := iprop(∃ W : Waits sig Unit, owes (c : Thread nD τ) (Ow c n) W)
/-- The two tokens transfer `k` is paid with. -/
def pushRes (c : Dev nD) (k : Fin 8) : sProp 𝕄 :=
  iprop(dutyTok ER (kcell (c, sIx k)) 0 false ∗ dutyTok ER (kcell (peer k c, rIx k)) 0 false)
/-- What waiting for transfer `k` to have been sent takes; -/
def sentRes (c : Dev nD) (k : Fin 8) : sProp 𝕄 :=
  iprop(atPos ER (kcell (c, sIx k)) 0 ∅ 0 ∗ cred (tallyAt (kcell (c, sIx k)) () (amt k)))
/-- what waiting for the arrival of transfer `k` takes. -/
def recvRes (c : Dev nD) (k : Fin 8) : sProp 𝕄 :=
  iprop(atPos ER (kcell (c, rIx k)) 0 ∅ 0 ∗ cred (tallyAt (kcell (c, rIx k)) () (amt k)))
/-- A closed cell, its counter at zero. -/
abbrev shut (c : Dev nD) (i : Fin 17) : sProp 𝕄 := semVal (kcell (c, i)) 0

section Rules
variable {α : Type} {Q : α → sProp (MT nD τ sig Unit (Elt F) ℕ UU ℕ)}

set_option backward.proofsInPublic true in
theorem amount_r {s' : Shape} (v : View sig .tc .vmem s' .bf16) (k : Fin 8) : v.amount (csem (rIx k)) = v.dmaCredit := by
  fin_cases k <;> rfl
/-- A transfer of half a slot's rows and columns credits the same whatever its place, -/
theorem credit_big {off : Fin 3 → ℕ} {inb : ∀ a, off a + S1x256x640.size a ≤ S4x256x1280.size a} {hr}
    {hq : (Rect.unit (s := S4x256x1280) off S1x256x640.size inb).shape.Squeezes S256x640} :
    ((commM.slice (Rect.unit (s := S4x256x1280) off S1x256x640.size inb) hr).squeeze S256x640 hq).view.dmaCredit = NB := rfl
/-- and so does one of half its rows. -/
theorem credit_small {off : Fin 3 → ℕ} {inb : ∀ a, off a + S1x128x640.size a ≤ S4x256x1280.size a} {hr}
    {hq : (Rect.unit (s := S4x256x1280) off S1x128x640.size inb).shape.Squeezes S128x640} :
    ((commM.slice (Rect.unit (s := S4x256x1280) off S1x128x640.size inb) hr).squeeze S128x640 hq).view.dmaCredit = NS := rfl

set_option maxHeartbeats 1000000 in
/-- Transfer `k` of device `c`: the source share and the peer's box go, the debt falls. -/
theorem wp_push (k : Fin 8) (c n : Dev nD) (hn : n = peer k c) {offS offD size : Fin 3 → ℕ} {s' : Shape}
    {inbS : ∀ a, offS a + size a ≤ S4x256x1280.size a} {inbD : ∀ a, offD a + size a ≤ S4x256x1280.size a} {rS rD}
    {qS : (Rect.unit (s := S4x256x1280) offS size inbS).shape.Squeezes s'} {qD : (Rect.unit (s := S4x256x1280) offD size inbD).shape.Squeezes s'}
    (h0 : size 0 = 1) (h1 : offS 1 = offD 1) (h2 : offS 2 = offD 2)
    (hbS : bx (offS 0) (offS 1) (offS 1 + size 1) (offS 2) (offS 2 + size 2) = srcBox k)
    (hbD : bx (offD 0) (offD 1) (offD 1 + size 1) (offD 2) (offD 2 + size 2) = dstBox k)
    {sS sR : SemLoc sig} (hsS : sS = csem (sIx k)) (hsR : sR = csem (rIx k))
    (hN : ((commM.slice (Rect.unit (s := S4x256x1280) offD size inbD) rD).squeeze s' qD).view.dmaCredit = amt k)
    {hsc : ((commM.slice (Rect.unit (s := S4x256x1280) offD size inbD) rD).squeeze s' qD : Memref sig (Dev.tc n : Thread nD τ).2.kind .vmem s' .bf16).view.ref.isScScratch = false}
    {hsrc : ((commM.slice (Rect.unit (s := S4x256x1280) offS size inbS) rS).squeeze s' qS).view.WordExact}
    {hdst : ((commM.slice (Rect.unit (s := S4x256x1280) offD size inbD) rD).squeeze s' qD).view.WordExact}
    {hsem : DmaTarget.Typed .vmem sR (.remote (Dev.tc n : Thread nD τ) ((commM.slice (Rect.unit (s := S4x256x1280) offD size inbD) rD).squeeze s' qD : Memref sig .tc .vmem s' .bf16) sS hsc)}
    {kk : PUnit → Prog (TpuEff nD τ sig (Elt F) Λ₀ .tc) α} :
    iprop(records m ρ K ∗ held m ρ c (srcBox k) (srcShare k) (srcOrigin k c) ∗ raw (peer k c) (dstBox k) ∗ ow c (8 - k.val) ∗ pushRes c k)
      ⊢ iprop(((cred (tallyAt (kcell (c, sIx k)) () (amt k)) ∗ ow c (7 - k.val)) -∗ WP c (kk ⟨⟩) Q)
          -∗ WP c (.op (.enqueueDma ((commM.slice (Rect.unit (s := S4x256x1280) offS size inbS) rS).squeeze s' qS)
              (.remote (Dev.tc n : Thread nD τ) ((commM.slice (Rect.unit (s := S4x256x1280) offD size inbD) rD).squeeze s' qD) sS hsc) sR hsrc hdst hsem) kk) Q) := by
  subst hn hsS hsR
  unfold ow pushRes held raw
  iintro ⟨#HR, ⟨%fs, %hfs, HS⟩, ⟨%fd, HD⟩, ⟨%W, HO⟩, HtS, HtR⟩ Hk
  rw [← hbS, ← sliceSet inbS h0 rS qS] at hfs
  ihave HS' := (Entails.of_eq (by rw [← hbS, ← sliceSet inbS h0 rS qS] :
    (((commM : Memref sig .tc .vmem S4x256x1280 .bf16).view.loc (c : Thread nD τ) ↦[srcBox k]{srcShare k} fs) : sProp 𝕄)
      = (((commM.slice (Rect.unit (s := S4x256x1280) offS size inbS) rS).squeeze s' qS).view.loc (c : Thread nD τ)
          ↦[((commM.slice (Rect.unit (s := S4x256x1280) offS size inbS) rS).squeeze s' qS).view.set]{srcShare k} fs))) $$ HS
  ihave HD' := (Entails.of_eq (by rw [← hbD, ← sliceSet inbD h0 rD qD] :
    (((commM : Memref sig .tc .vmem S4x256x1280 .bf16).view.loc (peer k c : Thread nD τ) ↦[dstBox k]{fullShare} fd) : sProp 𝕄)
      = (((commM.slice (Rect.unit (s := S4x256x1280) offD size inbD) rD).squeeze s' qD).view.loc (peer k c : Thread nD τ)
          ↦[((commM.slice (Rect.unit (s := S4x256x1280) offD size inbD) rD).squeeze s' qD).view.set]{fullShare} fd))) $$ HD
  iapply (Rounds.wp_send_pointsTo 𝒱₀ ER (ringRd m ρ) (c : Thread nD τ) none (κ₁ := K (c, sIx k)) (κ₂ := K (peer k c, rIx k))
    (r₁ := 0) (r₂ := 0) (d₁ := false) (d₂ := false) (fs := fs) (fd := fd)
    (c' := (peer k c : Thread nD τ)) (src := (commM.slice (Rect.unit (s := S4x256x1280) offS size inbS) rS).squeeze s' qS)
    (dst := (commM.slice (Rect.unit (s := S4x256x1280) offD size inbD) rD).squeeze s' qD)
    (by rw [duties_at m ρ c (sIx k), cellDuties_s]; exact Finset.mem_singleton_self _)
    (by rw [duties_at m ρ (peer k c) (rIx k), cellDuties_r]; exact Finset.mem_singleton_self _)
    () () (amt k) ((amount_r _ k).trans hN) ((amount_at m ρ c (sIx k) false).trans (cellAmt_s k)) ((amount_at m ρ (peer k c) (rIx k) false).trans (cellAmt_r k))
    (Ow c (7 - k.val)) (Ow_push c k) (W := W)
    (by
      rw [payload_at m ρ c (sIx k), cellPay_s]; unfold sendPay held
      iintro H; iexists fs; isplitr
      · ipureintro; rw [← hbS, ← sliceSet inbS h0 rS qS]; exact hfs
      · rw [← hbS, ← sliceSet inbS h0 rS qS]; iexact H)
    (by
      rw [payload_at m ρ (peer k c) (rIx k), cellPay_r]; unfold recvPay held
      iintro H; iexists _; isplitr; swap
      · rw [← hbD, ← sliceSet inbD h0 rD qD]; iexact H
      · ipureintro; rw [← hbD, ← sliceSet inbD h0 rD qD, origin_peer]
        exact Good.landed inbS inbD rS rD qS qD h1 h2 hfs)) $$ [HS' HD' HO HtS HtR]
  · isplitr; · iapply (records_inv m ρ K (c, sIx k)); iexact HR
    isplitr; · iapply (records_inv m ρ K (peer k c, rIx k)); iexact HR
    isplitl [HS']; · iexact HS'
    isplitl [HD']; · iexact HD'
    isplitl [HO]; · iexact HO
    isplitl [HtS]; · iexact HtS
    isplitr; · iapply (records_reached m ρ K (c, sIx k)); iexact HR
    isplitl [HtR]; · iexact HtR
    iapply (records_reached m ρ K (peer k c, rIx k)); iexact HR
  iintro ⟨HC, HO⟩
  iapply Hk
  isplitl [HC]; · iexact HC
  iexists W; iexact HO

set_option maxHeartbeats 1000000 in
/-- The wait for the arrival of transfer `k`: the box it wrote, and the cell closed. -/
theorem wp_recv (k : Fin 8) (c : Dev nD) (n : ℕ) (hn : k.val + n < 8) {s1 s' : Shape} {src : Memref sig .tc .vmem s1 .bf16}
    {offD size : Fin 3 → ℕ} {inbD : ∀ a, offD a + size a ≤ S4x256x1280.size a} {rD} {qD : (Rect.unit (s := S4x256x1280) offD size inbD).shape.Squeezes s'}
    {sR : DmaSem sig} (hsR : SemLoc.dma sR = csem (rIx k)) (hN : ((commM.slice (Rect.unit (s := S4x256x1280) offD size inbD) rD).squeeze s' qD).view.dmaCredit = amt k)
    {h1 h2} {kk : PUnit → Prog (TpuEff nD τ sig (Elt F) Λ₀ .tc) α} :
    iprop(records m ρ K ∗ levAts L lv ∗ ow c n ∗ recvRes c k)
      ⊢ iprop(((ow c n ∗ shut c (rIx k) ∗ held m ρ c (dstBox k) fullShare (origin k c)) -∗ WP c (kk ⟨⟩) Q)
          -∗ WP c (.op (.waitDma2 sR src ((commM.slice (Rect.unit (s := S4x256x1280) offD size inbD) rD).squeeze s' qD) h1 h2) kk) Q) := by
  unfold ow recvRes
  iintro ⟨#HR, #HL, ⟨%W, HO⟩, Hat, Hc⟩ Hk
  have hc : kcell (c, rIx k) = ((c : Thread nD τ), SemLoc.dma sR) := by rw [hsR]
  iapply (Rounds.wp_wait_rest_token 𝒱₀ ER (ringRd m ρ) (c : Thread nD τ) none (κ := K (c, rIx k))
      (wpE_waitDma2_eq 𝒱₀ (c : Thread nD τ) none Set.univ) (Set.mem_univ _) () (O := Ow c n) (W := W) (R := 0) (m := 0) (T := ∅)
      (by rw [← hc, expect_r, Nat.zero_add, hN])) $$ [Hc HO Hat]
  · isplitr; · rw [← hc]; iapply (records_inv m ρ K (c, rIx k)); iexact HR
    isplitl [Hc]; · rw [← hc, hN]; iexact Hc
    isplitl [HO]; · iexact HO
    isplitr; · rw [hsR]; iapply (mayWait_r c k n hn); iexact HL
    rw [← hc]; iexact Hat
  iintro ⟨HO, Hat, -, Hpay⟩
  ihave Hp := (Entails.of_eq ((by rw [← hc]; exact rest_r m ρ c k) : _ = recvPay m ρ c k)) $$ Hpay
  imod (Rounds.cell_close ER (ringRd m ρ) (Set.mem_univ (K (c, rIx k))) (fun h => h) (R := 0 + 1) (duties_later m ρ (kcell (c, rIx k)))) $$ [Hat] with Hz
  · isplitr; · iapply (records_inv m ρ K (c, rIx k)); iexact HR
    rw [← hc]; iexact Hat
  iapply Hk
  isplitl [HO]; · iexists _; iexact HO
  isplitl [Hz]; · iexact Hz
  unfold recvPay; iexact Hp

set_option maxHeartbeats 1000000 in
/-- The wait, nothing owed, for transfer `k` to have been sent: the source share back, and the cell closed. -/
theorem wp_sent (k : Fin 8) (c : Dev nD) {s1 s' : Shape} {src : Memref sig .tc .vmem s1 .bf16}
    {offD size : Fin 3 → ℕ} {inbD : ∀ a, offD a + size a ≤ S4x256x1280.size a} {rD} {qD : (Rect.unit (s := S4x256x1280) offD size inbD).shape.Squeezes s'}
    {sS : DmaSem sig} (hsS : SemLoc.dma sS = csem (sIx k)) (hN : ((commM.slice (Rect.unit (s := S4x256x1280) offD size inbD) rD).squeeze s' qD).view.dmaCredit = amt k)
    {h1 h2} {kk : PUnit → Prog (TpuEff nD τ sig (Elt F) Λ₀ .tc) α} :
    iprop(records m ρ K ∗ ow c 0 ∗ sentRes c k)
      ⊢ iprop(((ow c 0 ∗ shut c (sIx k) ∗ held m ρ c (srcBox k) (srcShare k) (srcOrigin k c)) -∗ WP c (kk ⟨⟩) Q)
          -∗ WP c (.op (.waitDma2 sS src ((commM.slice (Rect.unit (s := S4x256x1280) offD size inbD) rD).squeeze s' qD) h1 h2) kk) Q) := by
  unfold ow sentRes
  iintro ⟨#HR, ⟨%W, HO⟩, Hat, Hc⟩ Hk
  have hc : kcell (c, sIx k) = ((c : Thread nD τ), SemLoc.dma sS) := by rw [hsS]
  iapply (Rounds.wp_wait_rest_token 𝒱₀ ER (ringRd m ρ) (c : Thread nD τ) none (κ := K (c, sIx k))
      (wpE_waitDma2_eq 𝒱₀ (c : Thread nD τ) none Set.univ) (Set.mem_univ _) () (O := Ow c 0) (W := W) (R := 0) (m := 0) (T := ∅)
      (by rw [← hc, expect_s, Nat.zero_add, hN])) $$ [Hc HO Hat]
  · isplitr; · rw [← hc]; iapply (records_inv m ρ K (c, sIx k)); iexact HR
    isplitl [Hc]; · rw [← hc, hN]; iexact Hc
    isplitl [HO]; · iexact HO
    isplitr; · rw [show Ow c 0 = 0 from rfl, MayWait_zero]; iempintro
    rw [← hc]; iexact Hat
  iintro ⟨HO, Hat, -, Hpay⟩
  ihave Hp := (Entails.of_eq ((by rw [← hc]; exact rest_s m ρ c k) : _ = sendPay m ρ c k)) $$ Hpay
  imod (Rounds.cell_close ER (ringRd m ρ) (Set.mem_univ (K (c, sIx k))) (fun h => h) (R := 0 + 1) (duties_later m ρ (kcell (c, sIx k)))) $$ [Hat] with Hz
  · isplitr; · iapply (records_inv m ρ K (c, sIx k)); iexact HR
    rw [← hc]; iexact Hat
  iapply Hk
  isplitl [HO]; · iexists _; iexact HO
  isplitl [Hz]; · iexact Hz
  unfold sendPay; iexact Hp

/-- A load of half a slot is good for device `o` when its useful lanes are that device's partial attention. -/
def Fits (o : Dev nD) (b : ℕ) (hb : b < 2) (v : Vec F S1x256x640 .bf16) : Prop :=
  ∀ i : S1x256x640.Idx, (i 2).val < 516 →
    v i = ownAt (qS m ρ o) (kS m ρ o) (vS m ρ o) (i 1) ⟨640 * b + (i 2).val, by have h : (i 2).val < 640 := (i 2).isLt; omega⟩

/-- The load of half a slot. -/
theorem wp_slot {c o : Dev nD} {q : PosShare TreeShare} {S : Finset S4x256x1280.Idx} {off : Fin 3 → ℕ} (b : ℕ) (hb : b < 2) (ho1 : off 1 = 0) (ho2 : off 2 = 640 * b)
    {inb : ∀ a, off a + S1x256x640.size a ≤ S4x256x1280.size a} (hS : S = bx (off 0) 0 256 (640 * b) (640 * b + 640))
    {hl} {kk : Vec F S1x256x640 .bf16 → Prog (TpuEff nD τ sig (Elt F) Λ₀ .tc) α} :
    held m ρ c S q o ⊢ iprop((∀ v, ⌜Fits m ρ o b hb v⌝ -∗ held m ρ c S q o -∗ WP c (kk v) Q)
        -∗ WP c (.op (.load commM (Rect.unit (s := S4x256x1280) off S1x256x640.size inb).toLoadRect hl) kk) Q) := by
  have hset : (Rect.unit (s := S4x256x1280) off S1x256x640.size inb).set = S := by
    rw [unit_set_eq _ rfl, hS, ho1, ho2]; rfl
  unfold held
  iintro ⟨%f, %hf, H⟩ Hk
  iapply (wp_load_rect 𝒱₀ (c : Thread nD τ) none Set.univ (m := commM) (r := Rect.unit (s := S4x256x1280) off S1x256x640.size inb) (S := S)
    ((View.set_slice_whole _ _).trans_subset (le_of_eq hset))) $$ H
  iintro H
  ispecialize Hk $$ %_
  iapply Hk
  · ipureintro
    intro i hi
    have e2 : (((commM.access (Rect.unit (s := S4x256x1280) off S1x256x640.size inb)).emb i) 2).val = off 2 + 1 * (i 2).val := rfl
    have e1 : (((commM.access (Rect.unit (s := S4x256x1280) off S1x256x640.size inb)).emb i) 1).val = off 1 + 1 * (i 1).val := rfl
    have hm : ((commM.access (Rect.unit (s := S4x256x1280) off S1x256x640.size inb)).emb i) ∈ S := by
      rw [← hset]; exact (View.set_slice_whole cc0_scratch0 (Rect.unit (s := S4x256x1280) off S1x256x640.size inb)).le (View.emb_mem_set _ i)
    have h2 : (i 2).val < 640 := (i 2).isLt
    refine (hf _ hm (by unfold Useful; rw [e2, ho2]; omega)).trans ?_
    congr 1
    · exact Fin.ext (by rw [e1, ho1]; omega)
    · exact Fin.ext (by rw [e2, ho2]; show 640 * b + 1 * (i 2).val = 640 * b + (i 2).val; omega)
  · iexists f; isplitr; · ipureintro; exact hf
    iexact H

end Rules

end Cert.RingProof

end
-- ==== Proof.Mix.lean ====
/-
# `Mix`: the end of the computation, and that it reads only the lanes that are written

The four devices' partial outputs and partial sums are added, each head's outputs divided by its sums, and the quotients
multiplied with the output weights.  Only the first 516 lanes of a half slot count.
-/
module

public import proofs.«01_k».proof.Proof.Contents
public import Idealize.ShloMosaic.Lib.ValueLayout

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- From the added outputs and sums of four heads: the quotients side by side, -/
def quot (s : FVec F S256x640 .f32) : FVec F S256x512 .f32 :=
  have o0 : FVec F S256x128 .f32 := extractStridedSlice S256x128 ![0, 0] s slices_S256x640_o0_0_S256x128
  have l0 : FVec F S256x1 .f32 := extractStridedSlice S256x1 ![0, 512] s slices_S256x640_o0_512_S256x1
  have e0 : FVec F S256x128 .f32 := broadcastTo S256x128 l0 broadcasts_S256x1_S256x128
  have c0 : FVec F S256x128 .f32 := divf o0 e0
  have o1 : FVec F S256x128 .f32 := extractStridedSlice S256x128 ![0, 128] s slices_S256x640_o0_128_S256x128
  have l1 : FVec F S256x1 .f32 := extractStridedSlice S256x1 ![0, 513] s slices_S256x640_o0_513_S256x1
  have e1 : FVec F S256x128 .f32 := broadcastTo S256x128 l1 broadcasts_S256x1_S256x128
  have c1 : FVec F S256x128 .f32 := divf o1 e1
  have o2 : FVec F S256x128 .f32 := extractStridedSlice S256x128 ![0, 256] s slices_S256x640_o0_256_S256x128
  have l2 : FVec F S256x1 .f32 := extractStridedSlice S256x1 ![0, 514] s slices_S256x640_o0_514_S256x1
  have e2 : FVec F S256x128 .f32 := broadcastTo S256x128 l2 broadcasts_S256x1_S256x128
  have c2 : FVec F S256x128 .f32 := divf o2 e2
  have o3 : FVec F S256x128 .f32 := extractStridedSlice S256x128 ![0, 384] s slices_S256x640_o0_384_S256x128
  have l3 : FVec F S256x1 .f32 := extractStridedSlice S256x1 ![0, 515] s slices_S256x640_o0_515_S256x1
  have e3 : FVec F S256x128 .f32 := broadcastTo S256x128 l3 broadcasts_S256x1_S256x128
  have c3 : FVec F S256x128 .f32 := divf o3 e3
  have cat : FVec F S256x512 .f32 := concatenate S256x512 1 [⟨S256x128, c0⟩, ⟨S256x128, c1⟩, ⟨S256x128, c2⟩, ⟨S256x128, c3⟩] concatenates_S256x128_S256x128_S256x128_S256x128_S256x512_d1
  cat
/-- and their product with a half of the output weights. -/
def mix (s : FVec F S256x640 .f32) (w : Vec F S512x1024 .f32) : FVec F S256x1024 .f32 :=
  matmul dot_S256x512_S512x1024_S256x1024_1_0_0_1_n_n none (quot s) (shapeCast S512x1024 w shapeCasts_S512x1024_S512x1024) (constant S256x1024 .f32 0x00000000#32)

/-- One device's half slot, widened, -/
def wide (v : Vec F S1x256x640 .bf16) : FVec F S256x640 .f32 :=
  extf .f32 (shapeCast S256x640 v shapeCasts_S1x256x640_S256x640 : FVec F S256x640 .bf16) bitsLt_bf16_f32
/-- and the four added. -/
def total (v0 v1 v2 v3 : Vec F S1x256x640 .bf16) : FVec F S256x640 .f32 :=
  addf (addf (addf (wide v0) (wide v1)) (wide v2)) (wide v3)

theorem pay132_eq (v0 v1 v2 v3 : Vec F S1x256x640 .bf16) (w : Vec F S512x1024 .f32) : k0_pay132 v0 v1 v2 v3 w = mix (total v0 v1 v2 v3) w := rfl
theorem pay134_eq (t : FVec F S256x1024 .f32) (v0 v1 v2 v3 : Vec F S1x256x640 .bf16) (w : Vec F S512x1024 .f32) :
    k0_pay134 t (k0_pay133 v0 v1 v2) v3 w = shapeCast S1x256x1024 (addf t (mix (total v0 v1 v2 v3) w)) shapeCasts_S256x1024_S1x256x1024 := rfl

/-- Two half slots agree on the lanes that are written. -/
def Alike (v v' : Vec F S1x256x640 .bf16) : Prop := ∀ i : S1x256x640.Idx, (i 2).val < 516 → v i = v' i
/-- The same of the added ones. -/
def AlikeSum (s s' : FVec F S256x640 .f32) : Prop := ∀ i : S256x640.Idx, (i 1).val < 516 → s i = s' i

theorem wide_apply (v : Vec F S1x256x640 .bf16) (i : S256x640.Idx) :
    wide v i = FloatOps.extf .f32 bitsLt_bf16_f32 (v (ix3 (0 : Fin 1) (i 0 : Fin 256) (i 1 : Fin 640))) :=
  congrArg (FloatOps.extf .f32 bitsLt_bf16_f32)
    ((congrArg (shapeCast S256x640 v shapeCasts_S1x256x640_S256x640) (eq_ix2 (n0 := 256) (n1 := 640) i)).trans
      (shapeCast_1ab_ab_apply (a := 256) (b := 640) v shapeCasts_S1x256x640_S256x640 (i 0) (i 1)))

theorem Alike.wide {v v' : Vec F S1x256x640 .bf16} (h : Alike v v') : AlikeSum (wide v) (wide v') := fun i hi => by
  rw [wide_apply, wide_apply, h _ hi]
theorem AlikeSum.add {s s' t t' : FVec F S256x640 .f32} (h : AlikeSum s s') (k : AlikeSum t t') : AlikeSum (addf s t) (addf s' t') := fun i hi => by
  show FloatOps.addf (s i) (t i) = FloatOps.addf (s' i) (t' i)
  rw [h i hi, k i hi]
theorem AlikeSum.slice {s s' : FVec F S256x640 .f32} (h : AlikeSum s s') (n o : ℕ) (ho : o + n ≤ 516) (hs : S256x640.Slices ![0, o] ⟨2, ![256, n]⟩) :
    extractStridedSlice ⟨2, ![256, n]⟩ ![0, o] s hs = extractStridedSlice ⟨2, ![256, n]⟩ ![0, o] s' hs := funext fun i =>
  h _ (by
    have hi : (i 1).val < n := (i 1).isLt
    show o + (i 1).val < 516
    omega)

theorem AlikeSum.quot {s s' : FVec F S256x640 .f32} (h : AlikeSum s s') : quot s = quot s' := by
  unfold RingProof.quot
  rw [h.slice 128 0 (by decide) slices_S256x640_o0_0_S256x128, h.slice 128 128 (by decide) slices_S256x640_o0_128_S256x128,
    h.slice 128 256 (by decide) slices_S256x640_o0_256_S256x128, h.slice 128 384 (by decide) slices_S256x640_o0_384_S256x128,
    h.slice 1 512 (by decide) slices_S256x640_o0_512_S256x1, h.slice 1 513 (by decide) slices_S256x640_o0_513_S256x1,
    h.slice 1 514 (by decide) slices_S256x640_o0_514_S256x1, h.slice 1 515 (by decide) slices_S256x640_o0_515_S256x1]

/-- The product reads only the written lanes of the four half slots. -/
theorem mix_total {v0 v1 v2 v3 u0 u1 u2 u3 : Vec F S1x256x640 .bf16} (h0 : Alike v0 u0) (h1 : Alike v1 u1) (h2 : Alike v2 u2) (h3 : Alike v3 u3)
    (w : Vec F S512x1024 .f32) : mix (total v0 v1 v2 v3) w = mix (total u0 u1 u2 u3) w := by
  unfold mix total
  rw [(((h0.wide.add h1.wide).add h2.wide).add h3.wide).quot]

end Cert.RingProof

end
-- ==== Proof.Stages.lean ====
/-
# `Stages`: the exchange part by part

What a device holds between the parts of the kernel that transfer or wait, and each of those parts run from one holding to
the next.
-/
module

public import proofs.«01_k».proof.Proof.Parts
public import proofs.«01_k».proof.Proof.Ring
public import proofs.«01_k».proof.Proof.Mix

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-! ## The result -/

/-- Half `b` of device `o`'s slot. -/
def canon (o : Dev nD) (b : ℕ) (hb : b < 2) : Vec F S1x256x640 .bf16 := fun i =>
  ownAt (qS m ρ o) (kS m ρ o) (vS m ρ o) (i 1) ⟨640 * b + (i 2).val, by have h : (i 2).val < 640 := (i 2).isLt; omega⟩

abbrev woTop (c : Dev nD) : Vec F S512x1024 .f32 :=
  woM.view.readAt (Elt F) (Rect.unit (s := S1024x1024) ![0, 0] S512x1024.size inb_S1024x1024_S512x1024_0_0).toLoadRect (woS m ρ c)
abbrev woBot (c : Dev nD) : Vec F S512x1024 .f32 :=
  woM.view.readAt (Elt F) (Rect.unit (s := S1024x1024) ![512, 0] S512x1024.size inb_S1024x1024_S512x1024_512_0).toLoadRect (woS m ρ c)

/-- The first four heads' share of device `c`'s result, -/
def topAt (c : Dev nD) : FVec F S256x1024 .f32 :=
  k0_pay132 (canon m ρ c 0 (by decide)) (canon m ρ (origin 0 c) 0 (by decide)) (canon m ρ (origin 1 c) 0 (by decide)) (canon m ρ (origin 2 c) 0 (by decide)) (woTop m ρ c)
/-- and the whole result, from the four devices' slots. -/
def outAt (c : Dev nD) : (cc0_stg5_0 : Ref sig .tc).ty.Contents (Elt F) :=
  k0_pay134 (topAt m ρ c) (k0_pay133 (canon m ρ c 1 (by decide)) (canon m ρ (origin 4 c) 1 (by decide)) (canon m ρ (origin 5 c) 1 (by decide)))
    (canon m ρ (origin 6 c) 1 (by decide)) (woBot m ρ c)

theorem top_fits {c : Dev nD} {v0 v1 v2 v3 : Vec F S1x256x640 .bf16} (h0 : Fits m ρ c 0 (by decide) v0) (h1 : Fits m ρ (origin 0 c) 0 (by decide) v1)
    (h2 : Fits m ρ (origin 1 c) 0 (by decide) v2) (h3 : Fits m ρ (origin 2 c) 0 (by decide) v3) :
    k0_pay132 v0 v1 v2 v3 (woTop m ρ c) = topAt m ρ c := by
  unfold topAt
  rw [pay132_eq, pay132_eq]
  exact mix_total h0 h1 h2 h3 _
theorem out_fits {c : Dev nD} {v0 v1 v2 v3 : Vec F S1x256x640 .bf16} (h0 : Fits m ρ c 1 (by decide) v0) (h1 : Fits m ρ (origin 4 c) 1 (by decide) v1)
    (h2 : Fits m ρ (origin 5 c) 1 (by decide) v2) (h3 : Fits m ρ (origin 6 c) 1 (by decide) v3) :
    k0_pay134 (topAt m ρ c) (k0_pay133 v0 v1 v2) v3 (woBot m ρ c) = outAt m ρ c := by
  unfold outAt
  rw [pay134_eq, pay134_eq, mix_total h0 h1 h2 h3]
  rfl

omit [FloatOps F] in
theorem write_out (f w : (cc0_stg5_0 : Ref sig .tc).ty.Contents (Elt F)) :
    ((outM : Memref sig .tc .vmem S1x256x1024 .f32).access (Rect.unit (s := S1x256x1024) ![0, 0, 0] S1x256x1024.size inb_S1x256x1024_S1x256x1024_0_0_0) : View sig .tc _ _ _).write (Elt F) f w Finset.univ = w :=
  Memref.write_access_unit_zero_univ (Elt F) cc0_stg5_0 (funext fun a => by fin_cases a <;> rfl) _ f w

/-! ## Boxes and small steps -/

theorem fwd0_disj : Disjoint (srcBox 2) (bx 1 128 256 0 640) := Finset.disjoint_left.mpr fun i ha hb => by
  have ha := mem_bx.mp ha; have hb := mem_bx.mp hb; omega
theorem fwd0_eq : dstBox 0 = srcBox 2 ∪ bx 1 128 256 0 640 := by
  ext i
  have h1 : (i 1).val < 256 := (i 1).isLt
  rw [Finset.mem_union]; unfold dstBox srcBox; rw [mem_bx, mem_bx, mem_bx]; omega
theorem fwd1_disj : Disjoint (srcBox 3) (bx 2 0 128 0 640) := Finset.disjoint_left.mpr fun i ha hb => by
  have ha := mem_bx.mp ha; have hb := mem_bx.mp hb; omega
theorem fwd1_eq : dstBox 1 = srcBox 3 ∪ bx 2 0 128 0 640 := by
  ext i
  have h1 : (i 1).val < 256 := (i 1).isLt
  rw [Finset.mem_union]; unfold dstBox srcBox; rw [mem_bx, mem_bx, mem_bx]; omega
theorem fwd4_disj : Disjoint (srcBox 6) (bx 1 128 256 640 1280) := Finset.disjoint_left.mpr fun i ha hb => by
  have ha := mem_bx.mp ha; have hb := mem_bx.mp hb; omega
theorem fwd4_eq : dstBox 4 = srcBox 6 ∪ bx 1 128 256 640 1280 := by
  ext i
  have h1 : (i 1).val < 256 := (i 1).isLt
  rw [Finset.mem_union]; unfold dstBox srcBox; rw [mem_bx, mem_bx, mem_bx]; omega
theorem fwd5_disj : Disjoint (srcBox 7) (bx 2 0 128 640 1280) := Finset.disjoint_left.mpr fun i ha hb => by
  have ha := mem_bx.mp ha; have hb := mem_bx.mp hb; omega
theorem fwd5_eq : dstBox 5 = srcBox 7 ∪ bx 2 0 128 640 1280 := by
  ext i
  have h1 : (i 1).val < 256 := (i 1).isLt
  rw [Finset.mem_union]; unfold dstBox srcBox; rw [mem_bx, mem_bx, mem_bx]; omega
theorem opp0_disj : Disjoint (dstBox 2) (dstBox 3) := Finset.disjoint_left.mpr fun i ha hb => by
  have ha := mem_bx.mp ha; have hb := mem_bx.mp hb; omega
theorem opp0_eq : bx 3 0 256 0 640 = dstBox 2 ∪ dstBox 3 := by
  ext i
  rw [Finset.mem_union]; unfold dstBox; rw [mem_bx, mem_bx, mem_bx]; omega
theorem opp1_disj : Disjoint (dstBox 6) (dstBox 7) := Finset.disjoint_left.mpr fun i ha hb => by
  have ha := mem_bx.mp ha; have hb := mem_bx.mp hb; omega
theorem opp1_eq : bx 3 0 256 640 1280 = dstBox 6 ∪ dstBox 7 := by
  ext i
  rw [Finset.mem_union]; unfold dstBox; rw [mem_bx, mem_bx, mem_bx]; omega

theorem opp (c : Dev nD) : nxt (nxt c) = prv (prv c) := by revert c; decide

theorem sentRes_intro (c : Dev nD) (k : Fin 8) :
    iprop(atPos ER (kcell (c, sIx k)) 0 ∅ 0 ∗ cred (tallyAt (kcell (c, sIx k)) () (amt k))) ⊢ (sentRes c k : sProp 𝕄) := by
  unfold sentRes; iintro H; iexact H

/-- The attention on a half done, the half is good. -/
theorem att_done (c : Dev nD) (b : ℕ) : att (qS m ρ c) (kS m ρ c) (vS m ρ c) c b 32
    ⊢ iprop(stgPts c cc0_stg2_0 (kS m ρ c) ∗ stgPts c cc0_stg3_0 (vS m ρ c) ∗ held m ρ c (ownBx b) fullShare c) := by
  unfold att held
  iintro ⟨Hk, Hv, ⟨%f, %hf, H⟩⟩
  isplitl [Hk]; · iexact Hk
  isplitl [Hv]; · iexact Hv
  iexists f; isplitr; · ipureintro; exact hf.good
  iexact H

/-- Before the attention on a half, nothing is asked of its contents. -/
theorem att_begin {q : FVec F S256x1024 .f32} {X Y : S1x16x4x64x8x128.Idx → F .f32} (c : Dev nD) (b : ℕ) :
    iprop(stgPts c cc0_stg2_0 X ∗ stgPts c cc0_stg3_0 Y ∗ raw c (ownBx b)) ⊢ (att q X Y c b 0 : sProp 𝕄) := by
  unfold att raw
  iintro ⟨Hk, Hv, ⟨%f, H⟩⟩
  isplitl [Hk]; · iexact Hk
  isplitl [Hv]; · iexact Hv
  iexists f; isplitr; · ipureintro; exact Upto.zero
  iexact H

/-! ## The holdings -/

/-- What device `c` holds after the barrier, before the attention. -/
def Hold1 (c : Dev nD) : sProp 𝕄 :=
  iprop(records m ρ K
    ∗ levAts L lv
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 8
    ∗ shut c 0
    ∗ raw c (ownBx 1)
    ∗ pushRes c 0
    ∗ atPos ER (kcell (c, sIx 0)) 0 ∅ 0
    ∗ raw (peer 0 c) (dstBox 0)
    ∗ pushRes c 1
    ∗ atPos ER (kcell (c, sIx 1)) 0 ∅ 0
    ∗ raw (peer 1 c) (dstBox 1)
    ∗ pushRes c 2
    ∗ atPos ER (kcell (c, sIx 2)) 0 ∅ 0
    ∗ raw (peer 2 c) (dstBox 2)
    ∗ pushRes c 3
    ∗ atPos ER (kcell (c, sIx 3)) 0 ∅ 0
    ∗ raw (peer 3 c) (dstBox 3)
    ∗ pushRes c 4
    ∗ atPos ER (kcell (c, sIx 4)) 0 ∅ 0
    ∗ raw (peer 4 c) (dstBox 4)
    ∗ pushRes c 5
    ∗ atPos ER (kcell (c, sIx 5)) 0 ∅ 0
    ∗ raw (peer 5 c) (dstBox 5)
    ∗ pushRes c 6
    ∗ atPos ER (kcell (c, sIx 6)) 0 ∅ 0
    ∗ raw (peer 6 c) (dstBox 6)
    ∗ pushRes c 7
    ∗ atPos ER (kcell (c, sIx 7)) 0 ∅ 0
    ∗ raw (peer 7 c) (dstBox 7)
    ∗ recvRes c 0
    ∗ recvRes c 1
    ∗ recvRes c 2
    ∗ recvRes c 3
    ∗ recvRes c 4
    ∗ recvRes c 5
    ∗ recvRes c 6
    ∗ recvRes c 7)

/-- What device `c` holds with half a on its way, beside the attention on half b. -/
def Hold2 (c : Dev nD) : sProp 𝕄 :=
  iprop(records m ρ K
    ∗ levAts L lv
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 6
    ∗ shut c 0
    ∗ held m ρ c (srcBox 0) fullShare.left (c)
    ∗ sentRes c 0
    ∗ sentRes c 1
    ∗ pushRes c 2
    ∗ atPos ER (kcell (c, sIx 2)) 0 ∅ 0
    ∗ raw (peer 2 c) (dstBox 2)
    ∗ pushRes c 3
    ∗ atPos ER (kcell (c, sIx 3)) 0 ∅ 0
    ∗ raw (peer 3 c) (dstBox 3)
    ∗ pushRes c 4
    ∗ atPos ER (kcell (c, sIx 4)) 0 ∅ 0
    ∗ raw (peer 4 c) (dstBox 4)
    ∗ pushRes c 5
    ∗ atPos ER (kcell (c, sIx 5)) 0 ∅ 0
    ∗ raw (peer 5 c) (dstBox 5)
    ∗ pushRes c 6
    ∗ atPos ER (kcell (c, sIx 6)) 0 ∅ 0
    ∗ raw (peer 6 c) (dstBox 6)
    ∗ pushRes c 7
    ∗ atPos ER (kcell (c, sIx 7)) 0 ∅ 0
    ∗ raw (peer 7 c) (dstBox 7)
    ∗ recvRes c 0
    ∗ recvRes c 1
    ∗ recvRes c 2
    ∗ recvRes c 3
    ∗ recvRes c 4
    ∗ recvRes c 5
    ∗ recvRes c 6
    ∗ recvRes c 7)

/-- What device `c` holds with the left neighbour's half a in, beside the attention. -/
def Hold3 (c : Dev nD) : sProp 𝕄 :=
  iprop(records m ρ K
    ∗ levAts L lv
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 6
    ∗ shut c 0
    ∗ held m ρ c (srcBox 0) fullShare.left (c)
    ∗ sentRes c 0
    ∗ sentRes c 1
    ∗ pushRes c 2
    ∗ atPos ER (kcell (c, sIx 2)) 0 ∅ 0
    ∗ raw (peer 2 c) (dstBox 2)
    ∗ pushRes c 3
    ∗ atPos ER (kcell (c, sIx 3)) 0 ∅ 0
    ∗ raw (peer 3 c) (dstBox 3)
    ∗ pushRes c 4
    ∗ atPos ER (kcell (c, sIx 4)) 0 ∅ 0
    ∗ raw (peer 4 c) (dstBox 4)
    ∗ pushRes c 5
    ∗ atPos ER (kcell (c, sIx 5)) 0 ∅ 0
    ∗ raw (peer 5 c) (dstBox 5)
    ∗ pushRes c 6
    ∗ atPos ER (kcell (c, sIx 6)) 0 ∅ 0
    ∗ raw (peer 6 c) (dstBox 6)
    ∗ pushRes c 7
    ∗ atPos ER (kcell (c, sIx 7)) 0 ∅ 0
    ∗ raw (peer 7 c) (dstBox 7)
    ∗ shut c (rIx 0)
    ∗ held m ρ c (dstBox 0) fullShare (origin 0 c)
    ∗ recvRes c 1
    ∗ recvRes c 2
    ∗ recvRes c 3
    ∗ recvRes c 4
    ∗ recvRes c 5
    ∗ recvRes c 6
    ∗ recvRes c 7)

/-- What device `c` holds with both half a's passed on. -/
def Hold4 (c : Dev nD) : sProp 𝕄 :=
  iprop(records m ρ K
    ∗ levAts L lv
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 4
    ∗ shut c 0
    ∗ held m ρ c (srcBox 0) fullShare.left (c)
    ∗ sentRes c 0
    ∗ sentRes c 1
    ∗ sentRes c 2
    ∗ sentRes c 3
    ∗ pushRes c 4
    ∗ atPos ER (kcell (c, sIx 4)) 0 ∅ 0
    ∗ raw (peer 4 c) (dstBox 4)
    ∗ pushRes c 5
    ∗ atPos ER (kcell (c, sIx 5)) 0 ∅ 0
    ∗ raw (peer 5 c) (dstBox 5)
    ∗ pushRes c 6
    ∗ atPos ER (kcell (c, sIx 6)) 0 ∅ 0
    ∗ raw (peer 6 c) (dstBox 6)
    ∗ pushRes c 7
    ∗ atPos ER (kcell (c, sIx 7)) 0 ∅ 0
    ∗ raw (peer 7 c) (dstBox 7)
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ recvRes c 2
    ∗ recvRes c 3
    ∗ recvRes c 4
    ∗ recvRes c 5
    ∗ recvRes c 6
    ∗ recvRes c 7)

/-- What device `c` holds with half b on its way and the first piece of the opposite half a in. -/
def Hold5 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 2
    ∗ shut c 0
    ∗ held m ρ c (srcBox 0) fullShare.left (c)
    ∗ held m ρ c (srcBox 4) fullShare.left (c)
    ∗ sentRes c 0
    ∗ sentRes c 1
    ∗ sentRes c 2
    ∗ sentRes c 3
    ∗ sentRes c 4
    ∗ sentRes c 5
    ∗ pushRes c 6
    ∗ atPos ER (kcell (c, sIx 6)) 0 ∅ 0
    ∗ raw (peer 6 c) (dstBox 6)
    ∗ pushRes c 7
    ∗ atPos ER (kcell (c, sIx 7)) 0 ∅ 0
    ∗ raw (peer 7 c) (dstBox 7)
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ held m ρ c (dstBox 2) fullShare (origin 2 c)
    ∗ recvRes c 3
    ∗ recvRes c 4
    ∗ recvRes c 5
    ∗ recvRes c 6
    ∗ recvRes c 7)

/-- What device `c` holds with the opposite half a whole. -/
def Hold6 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 2
    ∗ shut c 0
    ∗ held m ρ c (srcBox 0) fullShare.left (c)
    ∗ held m ρ c (srcBox 4) fullShare.left (c)
    ∗ sentRes c 0
    ∗ sentRes c 1
    ∗ sentRes c 2
    ∗ sentRes c 3
    ∗ sentRes c 4
    ∗ sentRes c 5
    ∗ pushRes c 6
    ∗ atPos ER (kcell (c, sIx 6)) 0 ∅ 0
    ∗ raw (peer 6 c) (dstBox 6)
    ∗ pushRes c 7
    ∗ atPos ER (kcell (c, sIx 7)) 0 ∅ 0
    ∗ raw (peer 7 c) (dstBox 7)
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ recvRes c 4
    ∗ recvRes c 5
    ∗ recvRes c 6
    ∗ recvRes c 7
    ∗ held m ρ c (bx 3 0 256 0 640) fullShare (origin 2 c))

/-- What device `c` holds with the left neighbour's half b passed on and the right one's in. -/
def Hold7 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 1
    ∗ shut c 0
    ∗ held m ρ c (srcBox 0) fullShare.left (c)
    ∗ held m ρ c (srcBox 4) fullShare.left (c)
    ∗ sentRes c 0
    ∗ sentRes c 1
    ∗ sentRes c 2
    ∗ sentRes c 3
    ∗ sentRes c 4
    ∗ sentRes c 5
    ∗ sentRes c 6
    ∗ pushRes c 7
    ∗ atPos ER (kcell (c, sIx 7)) 0 ∅ 0
    ∗ raw (peer 7 c) (dstBox 7)
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ shut c (rIx 4)
    ∗ held m ρ c (dstBox 4) fullShare.left (origin 4 c)
    ∗ held m ρ c (bx 1 128 256 640 1280) fullShare.right (origin 4 c)
    ∗ shut c (rIx 5)
    ∗ held m ρ c (dstBox 5) fullShare (origin 5 c)
    ∗ recvRes c 6
    ∗ recvRes c 7
    ∗ held m ρ c (bx 3 0 256 0 640) fullShare (origin 2 c))

/-- What device `c` holds with everything sent and the first piece of the opposite half b in. -/
def Hold8 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ ow c 0
    ∗ shut c 0
    ∗ held m ρ c (srcBox 0) fullShare.left (c)
    ∗ held m ρ c (srcBox 4) fullShare.left (c)
    ∗ sentRes c 0
    ∗ sentRes c 1
    ∗ sentRes c 2
    ∗ sentRes c 3
    ∗ sentRes c 4
    ∗ sentRes c 5
    ∗ sentRes c 6
    ∗ sentRes c 7
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ shut c (rIx 4)
    ∗ held m ρ c (dstBox 4) fullShare.left (origin 4 c)
    ∗ held m ρ c (bx 1 128 256 640 1280) fullShare.right (origin 4 c)
    ∗ shut c (rIx 5)
    ∗ held m ρ c (dstBox 5) fullShare.left (origin 5 c)
    ∗ held m ρ c (bx 2 0 128 640 1280) fullShare.right (origin 5 c)
    ∗ shut c (rIx 6)
    ∗ held m ρ c (dstBox 6) fullShare (origin 6 c)
    ∗ recvRes c 7
    ∗ held m ρ c (bx 3 0 256 0 640) fullShare (origin 2 c))

/-- What device `c` holds with the result stored. -/
def Hold9 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ stgPts c cc0_stg5_0 (outAt m ρ c)
    ∗ ow c 0
    ∗ shut c 0
    ∗ held m ρ c (srcBox 0) fullShare.left (c)
    ∗ held m ρ c (srcBox 4) fullShare.left (c)
    ∗ sentRes c 0
    ∗ sentRes c 1
    ∗ sentRes c 2
    ∗ sentRes c 3
    ∗ sentRes c 4
    ∗ sentRes c 5
    ∗ sentRes c 6
    ∗ sentRes c 7
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ shut c (rIx 4)
    ∗ held m ρ c (dstBox 4) fullShare.left (origin 4 c)
    ∗ held m ρ c (bx 1 128 256 640 1280) fullShare.right (origin 4 c)
    ∗ shut c (rIx 5)
    ∗ held m ρ c (dstBox 5) fullShare.left (origin 5 c)
    ∗ held m ρ c (bx 2 0 128 640 1280) fullShare.right (origin 5 c)
    ∗ shut c (rIx 6)
    ∗ shut c (rIx 7)
    ∗ held m ρ c (bx 3 0 256 0 640) fullShare (origin 2 c)
    ∗ held m ρ c (bx 3 0 256 640 1280) fullShare (origin 6 c))

/-- What device `c` holds with the first four source shares back. -/
def Hold10 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ stgPts c cc0_stg5_0 (outAt m ρ c)
    ∗ ow c 0
    ∗ shut c 0
    ∗ held m ρ c (srcBox 0) fullShare.left (c)
    ∗ held m ρ c (srcBox 4) fullShare.left (c)
    ∗ shut c (sIx 0)
    ∗ held m ρ c (srcBox 0) (srcShare 0) (srcOrigin 0 c)
    ∗ shut c (sIx 1)
    ∗ held m ρ c (srcBox 1) (srcShare 1) (srcOrigin 1 c)
    ∗ shut c (sIx 2)
    ∗ held m ρ c (srcBox 2) (srcShare 2) (srcOrigin 2 c)
    ∗ shut c (sIx 3)
    ∗ held m ρ c (srcBox 3) (srcShare 3) (srcOrigin 3 c)
    ∗ sentRes c 4
    ∗ sentRes c 5
    ∗ sentRes c 6
    ∗ sentRes c 7
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ shut c (rIx 4)
    ∗ held m ρ c (dstBox 4) fullShare.left (origin 4 c)
    ∗ held m ρ c (bx 1 128 256 640 1280) fullShare.right (origin 4 c)
    ∗ shut c (rIx 5)
    ∗ held m ρ c (dstBox 5) fullShare.left (origin 5 c)
    ∗ held m ρ c (bx 2 0 128 640 1280) fullShare.right (origin 5 c)
    ∗ shut c (rIx 6)
    ∗ shut c (rIx 7)
    ∗ held m ρ c (bx 3 0 256 0 640) fullShare (origin 2 c)
    ∗ held m ρ c (bx 3 0 256 640 1280) fullShare (origin 6 c))

/-- What device `c` holds with all source shares back. -/
def Hold11 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ stgPts c cc0_stg5_0 (outAt m ρ c)
    ∗ ow c 0
    ∗ shut c 0
    ∗ held m ρ c (srcBox 0) fullShare.left (c)
    ∗ held m ρ c (srcBox 4) fullShare.left (c)
    ∗ shut c (sIx 0)
    ∗ held m ρ c (srcBox 0) (srcShare 0) (srcOrigin 0 c)
    ∗ shut c (sIx 1)
    ∗ held m ρ c (srcBox 1) (srcShare 1) (srcOrigin 1 c)
    ∗ shut c (sIx 2)
    ∗ held m ρ c (srcBox 2) (srcShare 2) (srcOrigin 2 c)
    ∗ shut c (sIx 3)
    ∗ held m ρ c (srcBox 3) (srcShare 3) (srcOrigin 3 c)
    ∗ shut c (sIx 4)
    ∗ held m ρ c (srcBox 4) (srcShare 4) (srcOrigin 4 c)
    ∗ shut c (sIx 5)
    ∗ held m ρ c (srcBox 5) (srcShare 5) (srcOrigin 5 c)
    ∗ shut c (sIx 6)
    ∗ held m ρ c (srcBox 6) (srcShare 6) (srcOrigin 6 c)
    ∗ shut c (sIx 7)
    ∗ held m ρ c (srcBox 7) (srcShare 7) (srcOrigin 7 c)
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ shut c (rIx 4)
    ∗ held m ρ c (dstBox 4) fullShare.left (origin 4 c)
    ∗ held m ρ c (bx 1 128 256 640 1280) fullShare.right (origin 4 c)
    ∗ shut c (rIx 5)
    ∗ held m ρ c (dstBox 5) fullShare.left (origin 5 c)
    ∗ held m ρ c (bx 2 0 128 640 1280) fullShare.right (origin 5 c)
    ∗ shut c (rIx 6)
    ∗ shut c (rIx 7)
    ∗ held m ρ c (bx 3 0 256 0 640) fullShare (origin 2 c)
    ∗ held m ρ c (bx 3 0 256 640 1280) fullShare (origin 6 c))

/-! ## The parts -/

section Run
variable {c : Dev nD} {α : Type} {Q : α → sProp (MT nD τ sig Unit (Elt F) ℕ UU ℕ)}

set_option maxHeartbeats 2000000 in
/-- Part 13. -/
theorem run_part13 (w5 w7 : BitVec 32) {k : FVec F S64x128 .f32 → Prog (TpuEff nD τ sig (Elt F) Λ₀ .tc) α}
    (hk : iprop(att (qS m ρ c) (kS m ρ c) (vS m ρ c) c 1 0 ∗ Hold2 m ρ K c) ⊢ WP c (k (k0_pay69 (qS m ρ c))) Q) :
    iprop(att (qS m ρ c) (kS m ρ c) (vS m ρ c) c 0 30 ∗ Hold1 m ρ K c)
      ⊢ WP c (k0_part13 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 c w5 w7 (qS m ρ c) (k0_pay65 (qS m ρ c) (kvCut (kS m ρ c) 3 3)) (k0_pay66 (qS m ρ c) (kvCut (kS m ρ c) 3 3) (kvCut (vS m ρ c) 3 3)) >>= k) Q := by
  rw [k0_part13_eq_skeleton]; unfold k0_part13_skel
  simp only [Prog.lift, Prog.bind_op, Prog.bind_ret, Prog.pure_eq_ret]
  refine att_peekO (by decide) rfl fun _ => ?_
  refine att_storeO (by decide) (by decide) (by decide) rfl rfl ?_
  refine att_peekL (by decide) rfl fun _ => ?_
  refine att_storeL (by decide) (by decide) (by decide) rfl rfl ?_
  unfold Hold1
  iintro ⟨Hatt, #HR, #HV, Hx, Hq, Hw, Ho, HO, HB, HD, Ht0, Hp0, Hb0, Ht1, Hp1, Hb1, Ht2, Hp2, Hb2, Ht3, Hp3, Hb3, Ht4, Hp4, Hb4, Ht5, Hp5, Hb5, Ht6, Hp6, Hb6, Ht7, Hp7, Hb7, Hr0, Hr1, Hr2, Hr3, Hr4, Hr5, Hr6, Hr7⟩
  ihave Hatt := (att_done m ρ c 0) $$ Hatt
  icases Hatt with ⟨Hk, Hv, HA⟩
  ihave HA := (held_share m ρ (PosShare.mem_left_op_right fullShare)) $$ HA
  icases HA with ⟨HA, Hrr⟩
  ihave Hrr := (held_share m ρ (PosShare.mem_left_op_right fullShare.right)) $$ Hrr
  icases Hrr with ⟨Hu0, Hu1⟩
  iapply (wp_push m ρ K 0 c _ (Fin.ext (k0_dev3_eq c)) (offS := ![0, 0, 0]) (offD := ![1, 0, 0]) (size := S1x256x640.size) rfl rfl rfl rfl rfl rfl rfl credit_big) $$ [Hu0 Hb0 HO Ht0]
  · isplitr; · iexact HR
    isplitl [Hu0]; · iexact Hu0
    isplitl [Hb0]; · iexact Hb0
    isplitl [HO]; · iexact HO
    iexact Ht0
  iintro ⟨Hs0, HO⟩
  ihave Hs0 := (sentRes_intro c 0) $$ [Hp0 Hs0]
  · isplitl [Hp0] <;> iassumption
  iapply (wp_push m ρ K 1 c _ (Fin.ext (k0_dev4_eq c)) (offS := ![0, 0, 0]) (offD := ![2, 0, 0]) (size := S1x256x640.size) rfl rfl rfl rfl rfl rfl rfl credit_big) $$ [Hu1 Hb1 HO Ht1]
  · isplitr; · iexact HR
    isplitl [Hu1]; · iexact Hu1
    isplitl [Hb1]; · iexact Hb1
    isplitl [HO]; · iexact HO
    iexact Ht1
  iintro ⟨Hs1, HO⟩
  ihave Hs1 := (sentRes_intro c 1) $$ [Hp1 Hs1]
  · isplitl [Hp1] <;> iassumption
  ihave Hatt := (att_begin (q := qS m ρ c) c 1) $$ [Hk Hv HD]
  · isplitl [Hk]; · iexact Hk
    isplitl [Hv] <;> iassumption
  iapply hk
  isplitl [Hatt]; · iexact Hatt
  unfold Hold2
  isplitr; · iexact HR
  isplitr; · iexact HV
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [Hs0]; · iexact Hs0
  isplitl [Hs1]; · iexact Hs1
  isplitl [Ht2]; · iexact Ht2
  isplitl [Hp2]; · iexact Hp2
  isplitl [Hb2]; · iexact Hb2
  isplitl [Ht3]; · iexact Ht3
  isplitl [Hp3]; · iexact Hp3
  isplitl [Hb3]; · iexact Hb3
  isplitl [Ht4]; · iexact Ht4
  isplitl [Hp4]; · iexact Hp4
  isplitl [Hb4]; · iexact Hb4
  isplitl [Ht5]; · iexact Ht5
  isplitl [Hp5]; · iexact Hp5
  isplitl [Hb5]; · iexact Hb5
  isplitl [Ht6]; · iexact Ht6
  isplitl [Hp6]; · iexact Hp6
  isplitl [Hb6]; · iexact Hb6
  isplitl [Ht7]; · iexact Ht7
  isplitl [Hp7]; · iexact Hp7
  isplitl [Hb7]; · iexact Hb7
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Hr7

set_option maxHeartbeats 2000000 in
/-- Part 19. -/
theorem run_part19 (w7 : BitVec 32) {k : PUnit → Prog (TpuEff nD τ sig (Elt F) Λ₀ .tc) α}
    (hk : iprop(att (qS m ρ c) (kS m ρ c) (vS m ρ c) c 1 16 ∗ Hold3 m ρ K c) ⊢ WP c (k ⟨⟩) Q) :
    iprop(att (qS m ρ c) (kS m ρ c) (vS m ρ c) c 1 14 ∗ Hold2 m ρ K c)
      ⊢ WP c (k0_part19 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 w7 (k0_pay98 (qS m ρ c)) >>= k) Q := by
  rw [k0_part19_eq_skeleton]; unfold k0_part19_skel
  simp only [Prog.lift, Prog.bind_op, Prog.bind_ret, Prog.pure_eq_ret]
  refine att_loadK 3 5 rfl ?_
  refine att_loadV 3 5 rfl ?_
  refine att_peekO (by decide) rfl fun _ => ?_
  refine att_storeO (by decide) (by decide) (by decide) rfl rfl ?_
  refine att_peekL (by decide) rfl fun _ => ?_
  refine att_storeL (by decide) (by decide) (by decide) rfl rfl ?_
  unfold Hold2
  iintro ⟨Hatt, #HR, #HV, Hx, Hq, Hw, Ho, HO, HB, HA, Hs0, Hs1, Ht2, Hp2, Hb2, Ht3, Hp3, Hb3, Ht4, Hp4, Hb4, Ht5, Hp5, Hb5, Ht6, Hp6, Hb6, Ht7, Hp7, Hb7, Hr0, Hr1, Hr2, Hr3, Hr4, Hr5, Hr6, Hr7⟩
  iapply (wp_recv m ρ K 0 c 6 (by decide) rfl credit_big) $$ [HO Hr0]
  · isplitr; · iexact HR
    isplitr; · iexact HV
    isplitl [HO]; · iexact HO
    iexact Hr0
  iintro ⟨HO, Hy0, Hh0⟩
  iapply hk
  isplitl [Hatt]; · iexact Hatt
  unfold Hold3
  isplitr; · iexact HR
  isplitr; · iexact HV
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [Hs0]; · iexact Hs0
  isplitl [Hs1]; · iexact Hs1
  isplitl [Ht2]; · iexact Ht2
  isplitl [Hp2]; · iexact Hp2
  isplitl [Hb2]; · iexact Hb2
  isplitl [Ht3]; · iexact Ht3
  isplitl [Hp3]; · iexact Hp3
  isplitl [Hb3]; · iexact Hb3
  isplitl [Ht4]; · iexact Ht4
  isplitl [Hp4]; · iexact Hp4
  isplitl [Hb4]; · iexact Hb4
  isplitl [Ht5]; · iexact Ht5
  isplitl [Hp5]; · iexact Hp5
  isplitl [Hb5]; · iexact Hb5
  isplitl [Ht6]; · iexact Ht6
  isplitl [Hp6]; · iexact Hp6
  isplitl [Hb6]; · iexact Hb6
  isplitl [Ht7]; · iexact Ht7
  isplitl [Hp7]; · iexact Hp7
  isplitl [Hb7]; · iexact Hb7
  isplitl [Hy0]; · iexact Hy0
  isplitl [Hh0]; · iexact Hh0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Hr7

set_option maxHeartbeats 2000000 in
/-- Part 20. -/
theorem run_part20 (w5 w7 : BitVec 32) {k : PUnit → Prog (TpuEff nD τ sig (Elt F) Λ₀ .tc) α}
    (hk : iprop(att (qS m ρ c) (kS m ρ c) (vS m ρ c) c 1 16 ∗ Hold4 m ρ K c) ⊢ WP c (k ⟨⟩) Q) :
    iprop(att (qS m ρ c) (kS m ρ c) (vS m ρ c) c 1 16 ∗ Hold3 m ρ K c)
      ⊢ WP c (k0_part20 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 c w5 w7 >>= k) Q := by
  rw [k0_part20_eq_skeleton]; unfold k0_part20_skel
  simp only [Prog.lift, Prog.bind_op, Prog.bind_ret, Prog.pure_eq_ret]
  unfold Hold3
  iintro ⟨Hatt, #HR, #HV, Hx, Hq, Hw, Ho, HO, HB, HA, Hs0, Hs1, Ht2, Hp2, Hb2, Ht3, Hp3, Hb3, Ht4, Hp4, Hb4, Ht5, Hp5, Hb5, Ht6, Hp6, Hb6, Ht7, Hp7, Hb7, Hy0, Hh0, Hr1, Hr2, Hr3, Hr4, Hr5, Hr6, Hr7⟩
  ihave Hh0 := (held_share m ρ (PosShare.mem_left_op_right fullShare)) $$ Hh0
  icases Hh0 with ⟨Hl0, Hrr⟩
  ihave Hrr := (held_split m ρ (A := srcBox 2) (B := bx 1 128 256 0 640) fwd0_disj fwd0_eq) $$ Hrr
  icases Hrr with ⟨Hu2, He0⟩
  iapply (wp_push m ρ K 2 c _ (Fin.ext (k0_dev5_eq c)) (offS := ![1, 0, 0]) (offD := ![3, 0, 0]) (size := S1x128x640.size) rfl rfl rfl rfl rfl rfl rfl credit_small) $$ [Hu2 Hb2 HO Ht2]
  · isplitr; · iexact HR
    isplitl [Hu2]; · iexact Hu2
    isplitl [Hb2]; · iexact Hb2
    isplitl [HO]; · iexact HO
    iexact Ht2
  iintro ⟨Hs2, HO⟩
  ihave Hs2 := (sentRes_intro c 2) $$ [Hp2 Hs2]
  · isplitl [Hp2] <;> iassumption
  iapply (wp_recv m ρ K 1 c 5 (by decide) rfl credit_big) $$ [HO Hr1]
  · isplitr; · iexact HR
    isplitr; · iexact HV
    isplitl [HO]; · iexact HO
    iexact Hr1
  iintro ⟨HO, Hy1, Hh1⟩
  ihave Hh1 := (held_share m ρ (PosShare.mem_left_op_right fullShare)) $$ Hh1
  icases Hh1 with ⟨Hl1, Hrr⟩
  ihave Hrr := (held_split m ρ (A := srcBox 3) (B := bx 2 0 128 0 640) fwd1_disj fwd1_eq) $$ Hrr
  icases Hrr with ⟨Hu3, He1⟩
  iapply (wp_push m ρ K 3 c _ (Fin.ext (k0_dev6_eq c)) (offS := ![2, 128, 0]) (offD := ![3, 128, 0]) (size := S1x128x640.size) rfl rfl rfl rfl rfl rfl rfl credit_small) $$ [Hu3 Hb3 HO Ht3]
  · isplitr; · iexact HR
    isplitl [Hu3]; · iexact Hu3
    isplitl [Hb3]; · iexact Hb3
    isplitl [HO]; · iexact HO
    iexact Ht3
  iintro ⟨Hs3, HO⟩
  ihave Hs3 := (sentRes_intro c 3) $$ [Hp3 Hs3]
  · isplitl [Hp3] <;> iassumption
  iapply hk
  isplitl [Hatt]; · iexact Hatt
  unfold Hold4
  isplitr; · iexact HR
  isplitr; · iexact HV
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [Hs0]; · iexact Hs0
  isplitl [Hs1]; · iexact Hs1
  isplitl [Hs2]; · iexact Hs2
  isplitl [Hs3]; · iexact Hs3
  isplitl [Ht4]; · iexact Ht4
  isplitl [Hp4]; · iexact Hp4
  isplitl [Hb4]; · iexact Hb4
  isplitl [Ht5]; · iexact Ht5
  isplitl [Hp5]; · iexact Hp5
  isplitl [Hb5]; · iexact Hb5
  isplitl [Ht6]; · iexact Ht6
  isplitl [Hp6]; · iexact Hp6
  isplitl [Hb6]; · iexact Hb6
  isplitl [Ht7]; · iexact Ht7
  isplitl [Hp7]; · iexact Hp7
  isplitl [Hb7]; · iexact Hb7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hr2]; · iexact Hr2
  isplitl [Hr3]; · iexact Hr3
  isplitl [Hr4]; · iexact Hr4
  isplitl [Hr5]; · iexact Hr5
  isplitl [Hr6]; · iexact Hr6
  iexact Hr7

set_option maxHeartbeats 2000000 in
/-- Part 27. -/
theorem run_part27 (w5 w7 : BitVec 32) {k : PUnit → Prog (TpuEff nD τ sig (Elt F) Λ₀ .tc) α}
    (hk : Hold5 m ρ K c ⊢ WP c (k ⟨⟩) Q) :
    iprop(att (qS m ρ c) (kS m ρ c) (vS m ρ c) c 1 32 ∗ Hold4 m ρ K c)
      ⊢ WP c (k0_part27 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 c w5 w7 >>= k) Q := by
  rw [k0_part27_eq_skeleton]; unfold k0_part27_skel
  simp only [Prog.lift, Prog.bind_op, Prog.bind_ret, Prog.pure_eq_ret]
  unfold Hold4
  iintro ⟨Hatt, #HR, #HV, Hx, Hq, Hw, Ho, HO, HB, HA, Hs0, Hs1, Hs2, Hs3, Ht4, Hp4, Hb4, Ht5, Hp5, Hb5, Ht6, Hp6, Hb6, Ht7, Hp7, Hb7, Hy0, Hl0, He0, Hy1, Hl1, He1, Hr2, Hr3, Hr4, Hr5, Hr6, Hr7⟩
  ihave Hatt := (att_done m ρ c 1) $$ Hatt
  icases Hatt with ⟨Hk, Hv, HD⟩
  ihave HD := (held_share m ρ (PosShare.mem_left_op_right fullShare)) $$ HD
  icases HD with ⟨HD, Hrr⟩
  ihave Hrr := (held_share m ρ (PosShare.mem_left_op_right fullShare.right)) $$ Hrr
  icases Hrr with ⟨Hu4, Hu5⟩
  iapply (wp_push m ρ K 4 c _ (Fin.ext (k0_dev7_eq c)) (offS := ![0, 0, 640]) (offD := ![1, 0, 640]) (size := S1x256x640.size) rfl rfl rfl rfl rfl rfl rfl credit_big) $$ [Hu4 Hb4 HO Ht4]
  · isplitr; · iexact HR
    isplitl [Hu4]; · iexact Hu4
    isplitl [Hb4]; · iexact Hb4
    isplitl [HO]; · iexact HO
    iexact Ht4
  iintro ⟨Hs4, HO⟩
  ihave Hs4 := (sentRes_intro c 4) $$ [Hp4 Hs4]
  · isplitl [Hp4] <;> iassumption
  iapply (wp_push m ρ K 5 c _ (Fin.ext (k0_dev8_eq c)) (offS := ![0, 0, 640]) (offD := ![2, 0, 640]) (size := S1x256x640.size) rfl rfl rfl rfl rfl rfl rfl credit_big) $$ [Hu5 Hb5 HO Ht5]
  · isplitr; · iexact HR
    isplitl [Hu5]; · iexact Hu5
    isplitl [Hb5]; · iexact Hb5
    isplitl [HO]; · iexact HO
    iexact Ht5
  iintro ⟨Hs5, HO⟩
  ihave Hs5 := (sentRes_intro c 5) $$ [Hp5 Hs5]
  · isplitl [Hp5] <;> iassumption
  iapply (wp_recv m ρ K 2 c 2 (by decide) rfl credit_small) $$ [HO Hr2]
  · isplitr; · iexact HR
    isplitr; · iexact HV
    isplitl [HO]; · iexact HO
    iexact Hr2
  iintro ⟨HO, Hy2, Hh2⟩
  iapply hk
  unfold Hold5
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Ht6]; · iexact Ht6
  isplitl [Hp6]; · iexact Hp6
  isplitl [Hb6]; · iexact Hb6
  isplitl [Ht7]; · iexact Ht7
  isplitl [Hp7]; · iexact Hp7
  isplitl [Hb7]; · iexact Hb7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hh2]; · iexact Hh2
  isplitl [Hr3]; · iexact Hr3
  isplitl [Hr4]; · iexact Hr4
  isplitl [Hr5]; · iexact Hr5
  isplitl [Hr6]; · iexact Hr6
  iexact Hr7

set_option maxHeartbeats 2000000 in
/-- Part 28. -/
theorem run_part28 (w7 : BitVec 32) {k : (Σ' (v786 : FVec F S256x1024 .f32), BitVec 32) → Prog (TpuEff nD τ sig (Elt F) Λ₀ .tc) α}
    (hk : ∀ w, Hold6 m ρ K c ⊢ WP c (k ⟨topAt m ρ c, w⟩) Q) :
    Hold5 m ρ K c
      ⊢ WP c (k0_part28 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 w7 >>= k) Q := by
  rw [k0_part28_eq_skeleton]; unfold k0_part28_skel
  simp only [Prog.lift, Prog.bind_op, Prog.bind_ret, Prog.pure_eq_ret]
  unfold Hold5
  iintro ⟨#HR, #HV, Hk, Hv, Hx, Hq, Hw, Ho, HO, HB, HA, HD, Hs0, Hs1, Hs2, Hs3, Hs4, Hs5, Ht6, Hp6, Hb6, Ht7, Hp7, Hb7, Hy0, Hl0, He0, Hy1, Hl1, He1, Hy2, Hh2, Hr3, Hr4, Hr5, Hr6, Hr7⟩
  iapply (wp_recv m ρ K 3 c 2 (by decide) rfl credit_small) $$ [HO Hr3]
  · isplitr; · iexact HR
    isplitr; · iexact HV
    isplitl [HO]; · iexact HO
    iexact Hr3
  iintro ⟨HO, Hy3, Hh3⟩
  ihave Hh3 := (Entails.of_eq (by rw [show origin 3 c = origin 2 c from opp c] : held m ρ c (dstBox 3) fullShare (origin 3 c) = held m ρ c (dstBox 3) fullShare (origin 2 c))) $$ Hh3
  ihave HJ := (held_join m ρ (A := dstBox 2) (B := dstBox 3) (S := bx 3 0 256 0 640) opp0_disj opp0_eq) $$ [Hh2 Hh3]
  · isplitl [Hh2] <;> iassumption
  iapply (wp_slot m ρ (c := c) (o := c) (S := srcBox 0) (off := ![0, 0, 0]) 0 (by decide) rfl rfl rfl) $$ HA
  iintro %v0 %hv0 HA
  iapply (wp_slot m ρ (c := c) (o := origin 0 c) (S := dstBox 0) (off := ![1, 0, 0]) 0 (by decide) rfl rfl rfl) $$ Hl0
  iintro %v1 %hv1 Hl0
  iapply (wp_slot m ρ (c := c) (o := origin 1 c) (S := dstBox 1) (off := ![2, 0, 0]) 0 (by decide) rfl rfl rfl) $$ Hl1
  iintro %v2 %hv2 Hl1
  iapply (wp_slot m ρ (c := c) (o := origin 2 c) (S := bx 3 0 256 0 640) (off := ![3, 0, 0]) 0 (by decide) rfl rfl rfl) $$ HJ
  iintro %v3 %hv3 HJ
  iapply (wp_load 𝒱₀ (c : Thread nD τ) none Set.univ (m := woM) (Finset.subset_univ _)) $$ Hw; iintro Hw
  rw [show k0_pay132 v0 v1 v2 v3 _ = topAt m ρ c from top_fits m ρ hv0 hv1 hv2 hv3]
  iapply (hk _)
  unfold Hold6
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Ht6]; · iexact Ht6
  isplitl [Hp6]; · iexact Hp6
  isplitl [Hb6]; · iexact Hb6
  isplitl [Ht7]; · iexact Ht7
  isplitl [Hp7]; · iexact Hp7
  isplitl [Hb7]; · iexact Hb7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hr4]; · iexact Hr4
  isplitl [Hr5]; · iexact Hr5
  isplitl [Hr6]; · iexact Hr6
  isplitl [Hr7]; · iexact Hr7
  iexact HJ

set_option maxHeartbeats 2000000 in
/-- Part 29. -/
theorem run_part29 (w5 w7 w787 : BitVec 32) {k : (Σ' (v813 : BitVec 32), BitVec 32) → Prog (TpuEff nD τ sig (Elt F) Λ₀ .tc) α}
    (hk : ∀ w w', Hold7 m ρ K c ⊢ WP c (k ⟨w, w'⟩) Q) :
    Hold6 m ρ K c
      ⊢ WP c (k0_part29 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 c w5 w7 w787 >>= k) Q := by
  rw [k0_part29_eq_skeleton]; unfold k0_part29_skel
  simp only [Prog.lift, Prog.bind_op, Prog.bind_ret, Prog.pure_eq_ret]
  unfold Hold6
  iintro ⟨#HR, #HV, Hk, Hv, Hx, Hq, Hw, Ho, HO, HB, HA, HD, Hs0, Hs1, Hs2, Hs3, Hs4, Hs5, Ht6, Hp6, Hb6, Ht7, Hp7, Hb7, Hy0, Hl0, He0, Hy1, Hl1, He1, Hy2, Hy3, Hr4, Hr5, Hr6, Hr7, HJ⟩
  iapply (wp_recv m ρ K 4 c 2 (by decide) rfl credit_big) $$ [HO Hr4]
  · isplitr; · iexact HR
    isplitr; · iexact HV
    isplitl [HO]; · iexact HO
    iexact Hr4
  iintro ⟨HO, Hy4, Hh4⟩
  ihave Hh4 := (held_share m ρ (PosShare.mem_left_op_right fullShare)) $$ Hh4
  icases Hh4 with ⟨Hl4, Hrr⟩
  ihave Hrr := (held_split m ρ (A := srcBox 6) (B := bx 1 128 256 640 1280) fwd4_disj fwd4_eq) $$ Hrr
  icases Hrr with ⟨Hu6, He4⟩
  iapply (wp_push m ρ K 6 c _ (Fin.ext (k0_dev9_eq c)) (offS := ![1, 0, 640]) (offD := ![3, 0, 640]) (size := S1x128x640.size) rfl rfl rfl rfl rfl rfl rfl credit_small) $$ [Hu6 Hb6 HO Ht6]
  · isplitr; · iexact HR
    isplitl [Hu6]; · iexact Hu6
    isplitl [Hb6]; · iexact Hb6
    isplitl [HO]; · iexact HO
    iexact Ht6
  iintro ⟨Hs6, HO⟩
  ihave Hs6 := (sentRes_intro c 6) $$ [Hp6 Hs6]
  · isplitl [Hp6] <;> iassumption
  iapply (wp_recv m ρ K 5 c 1 (by decide) rfl credit_big) $$ [HO Hr5]
  · isplitr; · iexact HR
    isplitr; · iexact HV
    isplitl [HO]; · iexact HO
    iexact Hr5
  iintro ⟨HO, Hy5, Hh5⟩
  iapply (hk _ _)
  unfold Hold7
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Ht7]; · iexact Ht7
  isplitl [Hp7]; · iexact Hp7
  isplitl [Hb7]; · iexact Hb7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hy4]; · iexact Hy4
  isplitl [Hl4]; · iexact Hl4
  isplitl [He4]; · iexact He4
  isplitl [Hy5]; · iexact Hy5
  isplitl [Hh5]; · iexact Hh5
  isplitl [Hr6]; · iexact Hr6
  isplitl [Hr7]; · iexact Hr7
  iexact HJ

set_option maxHeartbeats 2000000 in
/-- Part 30. -/
theorem run_part30 (w5 w7 w813 w807 : BitVec 32) {k : (Σ' (v833 : FVec F S256x640 .f32) (v842 : BitVec 32), BitVec 32) → Prog (TpuEff nD τ sig (Elt F) Λ₀ .tc) α}
    (hk : ∀ v0 v1 v2 w w', Fits m ρ c 1 (by decide) v0 → Fits m ρ (origin 4 c) 1 (by decide) v1 → Fits m ρ (origin 5 c) 1 (by decide) v2 → Hold8 m ρ K c ⊢ WP c (k ⟨k0_pay133 v0 v1 v2, w, w'⟩) Q) :
    Hold7 m ρ K c
      ⊢ WP c (k0_part30 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 c w5 w7 w813 w807 >>= k) Q := by
  rw [k0_part30_eq_skeleton]; unfold k0_part30_skel
  simp only [Prog.lift, Prog.bind_op, Prog.bind_ret, Prog.pure_eq_ret]
  unfold Hold7
  iintro ⟨#HR, #HV, Hk, Hv, Hx, Hq, Hw, Ho, HO, HB, HA, HD, Hs0, Hs1, Hs2, Hs3, Hs4, Hs5, Hs6, Ht7, Hp7, Hb7, Hy0, Hl0, He0, Hy1, Hl1, He1, Hy2, Hy3, Hy4, Hl4, He4, Hy5, Hh5, Hr6, Hr7, HJ⟩
  ihave Hh5 := (held_share m ρ (PosShare.mem_left_op_right fullShare)) $$ Hh5
  icases Hh5 with ⟨Hl5, Hrr⟩
  ihave Hrr := (held_split m ρ (A := srcBox 7) (B := bx 2 0 128 640 1280) fwd5_disj fwd5_eq) $$ Hrr
  icases Hrr with ⟨Hu7, He5⟩
  iapply (wp_push m ρ K 7 c _ (Fin.ext (k0_dev10_eq c)) (offS := ![2, 128, 640]) (offD := ![3, 128, 640]) (size := S1x128x640.size) rfl rfl rfl rfl rfl rfl rfl credit_small) $$ [Hu7 Hb7 HO Ht7]
  · isplitr; · iexact HR
    isplitl [Hu7]; · iexact Hu7
    isplitl [Hb7]; · iexact Hb7
    isplitl [HO]; · iexact HO
    iexact Ht7
  iintro ⟨Hs7, HO⟩
  ihave Hs7 := (sentRes_intro c 7) $$ [Hp7 Hs7]
  · isplitl [Hp7] <;> iassumption
  iapply (wp_slot m ρ (c := c) (o := c) (S := srcBox 4) (off := ![0, 0, 640]) 1 (by decide) rfl rfl rfl) $$ HD
  iintro %v0 %hv0 HD
  iapply (wp_slot m ρ (c := c) (o := origin 4 c) (S := dstBox 4) (off := ![1, 0, 640]) 1 (by decide) rfl rfl rfl) $$ Hl4
  iintro %v1 %hv1 Hl4
  iapply (wp_slot m ρ (c := c) (o := origin 5 c) (S := dstBox 5) (off := ![2, 0, 640]) 1 (by decide) rfl rfl rfl) $$ Hl5
  iintro %v2 %hv2 Hl5
  iapply (wp_recv m ρ K 6 c 0 (by decide) rfl credit_small) $$ [HO Hr6]
  · isplitr; · iexact HR
    isplitr; · iexact HV
    isplitl [HO]; · iexact HO
    iexact Hr6
  iintro ⟨HO, Hy6, Hh6⟩
  iapply (hk _ _ _ _ _ hv0 hv1 hv2)
  unfold Hold8
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hy4]; · iexact Hy4
  isplitl [Hl4]; · iexact Hl4
  isplitl [He4]; · iexact He4
  isplitl [Hy5]; · iexact Hy5
  isplitl [Hl5]; · iexact Hl5
  isplitl [He5]; · iexact He5
  isplitl [Hy6]; · iexact Hy6
  isplitl [Hh6]; · iexact Hh6
  isplitl [Hr7]; · iexact Hr7
  iexact HJ

set_option maxHeartbeats 2000000 in
/-- Part 31. -/
theorem run_part31 (w842 w836 : BitVec 32) {v0 v1 v2 : Vec F S1x256x640 .bf16} (hv0 : Fits m ρ c 1 (by decide) v0) (hv1 : Fits m ρ (origin 4 c) 1 (by decide) v1) (hv2 : Fits m ρ (origin 5 c) 1 (by decide) v2)
    {k : PUnit → Prog (TpuEff nD τ sig (Elt F) Λ₀ .tc) α}
    (hk : Hold9 m ρ K c ⊢ WP c (k ⟨⟩) Q) :
    Hold8 m ρ K c
      ⊢ WP c (k0_part31 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 (topAt m ρ c) (k0_pay133 v0 v1 v2) w842 w836 >>= k) Q := by
  rw [k0_part31_eq_skeleton]; unfold k0_part31_skel
  simp only [Prog.lift, Prog.bind_op, Prog.bind_ret, Prog.pure_eq_ret]
  unfold Hold8
  iintro ⟨#HR, #HV, Hk, Hv, Hx, Hq, Hw, Ho, HO, HB, HA, HD, Hs0, Hs1, Hs2, Hs3, Hs4, Hs5, Hs6, Hs7, Hy0, Hl0, He0, Hy1, Hl1, He1, Hy2, Hy3, Hy4, Hl4, He4, Hy5, Hl5, He5, Hy6, Hh6, Hr7, HJ⟩
  icases Ho with ⟨%fo, Ho⟩
  iapply (wp_recv m ρ K 7 c 0 (by decide) rfl credit_small) $$ [HO Hr7]
  · isplitr; · iexact HR
    isplitr; · iexact HV
    isplitl [HO]; · iexact HO
    iexact Hr7
  iintro ⟨HO, Hy7, Hh7⟩
  ihave Hh7 := (Entails.of_eq (by rw [show origin 7 c = origin 6 c from opp c] : held m ρ c (dstBox 7) fullShare (origin 7 c) = held m ρ c (dstBox 7) fullShare (origin 6 c))) $$ Hh7
  ihave HL := (held_join m ρ (A := dstBox 6) (B := dstBox 7) (S := bx 3 0 256 640 1280) opp1_disj opp1_eq) $$ [Hh6 Hh7]
  · isplitl [Hh6] <;> iassumption
  iapply (wp_slot m ρ (c := c) (o := origin 6 c) (S := bx 3 0 256 640 1280) (off := ![3, 0, 640]) 1 (by decide) rfl rfl rfl) $$ HL
  iintro %v3 %hv3 HL
  iapply (wp_load 𝒱₀ (c : Thread nD τ) none Set.univ (m := woM) (Finset.subset_univ _)) $$ Hw; iintro Hw
  iapply (wp_load 𝒱₀ (c : Thread nD τ) none Set.univ (m := outM) (Finset.subset_univ _)) $$ Ho; iintro Ho
  iapply (wp_store 𝒱₀ (c : Thread nD τ) none Set.univ (m := outM) (r := Rect.unit (s := S1x256x1024) ![0, 0, 0] S1x256x1024.size inb_S1x256x1024_S1x256x1024_0_0_0) (Mk := Finset.univ) (Finset.subset_univ _)) $$ Ho; iintro Ho
  rw [write_out, show k0_pay134 (topAt m ρ c) (k0_pay133 v0 v1 v2) v3 _ = outAt m ρ c from out_fits m ρ hv0 hv1 hv2 hv3]
  iapply hk
  unfold Hold9
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hy4]; · iexact Hy4
  isplitl [Hl4]; · iexact Hl4
  isplitl [He4]; · iexact He4
  isplitl [Hy5]; · iexact Hy5
  isplitl [Hl5]; · iexact Hl5
  isplitl [He5]; · iexact He5
  isplitl [Hy6]; · iexact Hy6
  isplitl [Hy7]; · iexact Hy7
  isplitl [HJ]; · iexact HJ
  iexact HL

set_option maxHeartbeats 2000000 in
/-- Part 32. -/
theorem run_part32 {k : PUnit → Prog (TpuEff nD τ sig (Elt F) Λ₀ .tc) α}
    (hk : Hold10 m ρ K c ⊢ WP c (k ⟨⟩) Q) :
    Hold9 m ρ K c
      ⊢ WP c (k0_part32 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 >>= k) Q := by
  rw [k0_part32_eq_skeleton]; unfold k0_part32_skel
  simp only [Prog.lift, Prog.bind_op, Prog.bind_ret, Prog.pure_eq_ret]
  unfold Hold9
  iintro ⟨#HR, #HV, Hk, Hv, Hx, Hq, Hw, Ho, HO, HB, HA, HD, Hs0, Hs1, Hs2, Hs3, Hs4, Hs5, Hs6, Hs7, Hy0, Hl0, He0, Hy1, Hl1, He1, Hy2, Hy3, Hy4, Hl4, He4, Hy5, Hl5, He5, Hy6, Hy7, HJ, HL⟩
  iapply (wp_sent m ρ K 0 c rfl credit_big) $$ [HO Hs0]
  · isplitr; · iexact HR
    isplitl [HO]; · iexact HO
    iexact Hs0
  iintro ⟨HO, Hz0, Hg0⟩
  iapply (wp_sent m ρ K 1 c rfl credit_big) $$ [HO Hs1]
  · isplitr; · iexact HR
    isplitl [HO]; · iexact HO
    iexact Hs1
  iintro ⟨HO, Hz1, Hg1⟩
  iapply (wp_sent m ρ K 2 c rfl credit_small) $$ [HO Hs2]
  · isplitr; · iexact HR
    isplitl [HO]; · iexact HO
    iexact Hs2
  iintro ⟨HO, Hz2, Hg2⟩
  iapply (wp_sent m ρ K 3 c rfl credit_small) $$ [HO Hs3]
  · isplitr; · iexact HR
    isplitl [HO]; · iexact HO
    iexact Hs3
  iintro ⟨HO, Hz3, Hg3⟩
  iapply hk
  unfold Hold10
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hz0]; · iexact Hz0
  isplitl [Hg0]; · iexact Hg0
  isplitl [Hz1]; · iexact Hz1
  isplitl [Hg1]; · iexact Hg1
  isplitl [Hz2]; · iexact Hz2
  isplitl [Hg2]; · iexact Hg2
  isplitl [Hz3]; · iexact Hz3
  isplitl [Hg3]; · iexact Hg3
  isplitl [Hs4]; · iexact Hs4
  isplitl [Hs5]; · iexact Hs5
  isplitl [Hs6]; · iexact Hs6
  isplitl [Hs7]; · iexact Hs7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hy4]; · iexact Hy4
  isplitl [Hl4]; · iexact Hl4
  isplitl [He4]; · iexact He4
  isplitl [Hy5]; · iexact Hy5
  isplitl [Hl5]; · iexact Hl5
  isplitl [He5]; · iexact He5
  isplitl [Hy6]; · iexact Hy6
  isplitl [Hy7]; · iexact Hy7
  isplitl [HJ]; · iexact HJ
  iexact HL

end Run

end Cert.RingProof

end
-- ==== Proof.Body.lean ====
/-
# `Body`: the whole kernel on one device

The barrier and the first loads, the parts in order, and the last waits; at the end the exchange buffer is whole again, every
cell closed, and the result stored.
-/
module

public import proofs.«01_k».proof.Proof.Stages

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)
/-- What device `c` holds at the start. -/
def Hold0 (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ iprop(∃ f : Buf (Elt F) ((c : Thread nD τ).loc cc0_stg5_0), stgPts c cc0_stg5_0 f)
    ∗ iprop(∃ W : Waits sig Unit, owes (c : Thread nD τ) (O₀ c) W)
    ∗ atPos ER (kcell (c, 0)) 0 ∅ 0
    ∗ cred (tallyAt (kcell (c, 0)) () 2)
    ∗ dutyTok ER (kcell (prv c, 0)) 0 true
    ∗ dutyTok ER (kcell (nxt c, 0)) 0 false
    ∗ raw c (ownBx 0)
    ∗ raw c (ownBx 1)
    ∗ pushRes c 0
    ∗ atPos ER (kcell (c, sIx 0)) 0 ∅ 0
    ∗ pushRes c 1
    ∗ atPos ER (kcell (c, sIx 1)) 0 ∅ 0
    ∗ pushRes c 2
    ∗ atPos ER (kcell (c, sIx 2)) 0 ∅ 0
    ∗ pushRes c 3
    ∗ atPos ER (kcell (c, sIx 3)) 0 ∅ 0
    ∗ pushRes c 4
    ∗ atPos ER (kcell (c, sIx 4)) 0 ∅ 0
    ∗ pushRes c 5
    ∗ atPos ER (kcell (c, sIx 5)) 0 ∅ 0
    ∗ pushRes c 6
    ∗ atPos ER (kcell (c, sIx 6)) 0 ∅ 0
    ∗ pushRes c 7
    ∗ atPos ER (kcell (c, sIx 7)) 0 ∅ 0
    ∗ recvRes c 0
    ∗ recvRes c 1
    ∗ recvRes c 2
    ∗ recvRes c 3
    ∗ recvRes c 4
    ∗ recvRes c 5
    ∗ recvRes c 6
    ∗ recvRes c 7
    ∗ raw c (dstBox 0)
    ∗ raw c (dstBox 1)
    ∗ raw c (dstBox 2)
    ∗ raw c (dstBox 3)
    ∗ raw c (dstBox 4)
    ∗ raw c (dstBox 5)
    ∗ raw c (dstBox 6)
    ∗ raw c (dstBox 7))

/-- What device `c` holds with six source shares back. -/
def Hold10' (c : Dev nD) : sProp 𝕄 :=
  iprop(records m ρ K
    ∗ levAts L lv
    ∗ stgPts c cc0_stg2_0 (kS m ρ c)
    ∗ stgPts c cc0_stg3_0 (vS m ρ c)
    ∗ stgPts c cc0_stg0_0 (xS m ρ c)
    ∗ stgPts c cc0_stg1_0 (wqS m ρ c)
    ∗ stgPts c cc0_stg4_0 (woS m ρ c)
    ∗ stgPts c cc0_stg5_0 (outAt m ρ c)
    ∗ ow c 0
    ∗ shut c 0
    ∗ held m ρ c (srcBox 0) fullShare.left (c)
    ∗ held m ρ c (srcBox 4) fullShare.left (c)
    ∗ shut c (sIx 0)
    ∗ held m ρ c (srcBox 0) (srcShare 0) (srcOrigin 0 c)
    ∗ shut c (sIx 1)
    ∗ held m ρ c (srcBox 1) (srcShare 1) (srcOrigin 1 c)
    ∗ shut c (sIx 2)
    ∗ held m ρ c (srcBox 2) (srcShare 2) (srcOrigin 2 c)
    ∗ shut c (sIx 3)
    ∗ held m ρ c (srcBox 3) (srcShare 3) (srcOrigin 3 c)
    ∗ shut c (sIx 4)
    ∗ held m ρ c (srcBox 4) (srcShare 4) (srcOrigin 4 c)
    ∗ shut c (sIx 5)
    ∗ held m ρ c (srcBox 5) (srcShare 5) (srcOrigin 5 c)
    ∗ sentRes c 6
    ∗ sentRes c 7
    ∗ shut c (rIx 0)
    ∗ held m ρ c (dstBox 0) fullShare.left (origin 0 c)
    ∗ held m ρ c (bx 1 128 256 0 640) fullShare.right (origin 0 c)
    ∗ shut c (rIx 1)
    ∗ held m ρ c (dstBox 1) fullShare.left (origin 1 c)
    ∗ held m ρ c (bx 2 0 128 0 640) fullShare.right (origin 1 c)
    ∗ shut c (rIx 2)
    ∗ shut c (rIx 3)
    ∗ shut c (rIx 4)
    ∗ held m ρ c (dstBox 4) fullShare.left (origin 4 c)
    ∗ held m ρ c (bx 1 128 256 640 1280) fullShare.right (origin 4 c)
    ∗ shut c (rIx 5)
    ∗ held m ρ c (dstBox 5) fullShare.left (origin 5 c)
    ∗ held m ρ c (bx 2 0 128 640 1280) fullShare.right (origin 5 c)
    ∗ shut c (rIx 6)
    ∗ shut c (rIx 7)
    ∗ held m ρ c (bx 3 0 256 0 640) fullShare (origin 2 c)
    ∗ held m ρ c (bx 3 0 256 640 1280) fullShare (origin 6 c))

section Run
variable {c : Dev nD} {Q : PUnit → sProp (MT nD τ sig Unit (Elt F) ℕ UU ℕ)}

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

theorem bar_true (c : Dev nD) : cellPay m ρ (prv c) 0 true = iprop(raw c (dstBox 0) ∗ raw c (dstBox 2) ∗ raw c (dstBox 4) ∗ raw c (dstBox 6)) := by
  show barPay (prv c) true = _
  unfold barPay; rw [nxt_prv]
theorem bar_false (c : Dev nD) : cellPay m ρ (nxt c) 0 false = iprop(raw c (dstBox 1) ∗ raw c (dstBox 3) ∗ raw c (dstBox 5) ∗ raw c (dstBox 7)) := by
  show barPay (nxt c) false = _
  unfold barPay; rw [prv_nxt]
theorem paid_true (c : Dev nD) : iprop(raw c (dstBox 0) ∗ raw c (dstBox 2) ∗ raw c (dstBox 4) ∗ raw c (dstBox 6))
    = (ringRd m ρ).payload ((prv c : Thread nD τ), SemLoc.reg barS) 0 true := ((payload_at m ρ (prv c) 0 true).trans (bar_true m ρ c)).symm
theorem paid_false (c : Dev nD) : iprop(raw c (dstBox 1) ∗ raw c (dstBox 3) ∗ raw c (dstBox 5) ∗ raw c (dstBox 7))
    = (ringRd m ρ).payload ((nxt c : Thread nD τ), SemLoc.reg barS) 0 false := ((payload_at m ρ (nxt c) 0 false).trans (bar_false m ρ c)).symm
theorem met (c : Dev nD) : bigSep ((ringRd m ρ).duties ((c : Thread nD τ), SemLoc.reg barS) 0 \ ∅)
    (fun d => (ringRd m ρ).payload ((c : Thread nD τ), SemLoc.reg barS) 0 d) = iprop(barPay c false ∗ barPay c true) := rest_bar m ρ c
omit [FloatOps F] in
theorem ow_intro (c : Dev nD) (n : ℕ) {W : Waits sig Unit} : owes (c : Thread nD τ) (Ow c n) W ⊢ (ow c n : sProp 𝕄) := by
  unfold ow; iintro H; iexists W; iexact H
omit [FloatOps F] in
theorem read_x (f : (cc0_stg0_0 : Ref sig .tc).ty.Contents (Elt F)) :
    (xM : Memref sig .tc .vmem S1x256x1024 .f32).view.readAt (Elt F) (Rect.unit (s := S1x256x1024) ![0, 0, 0] S1x256x1024.size inb_S1x256x1024_S1x256x1024_0_0_0).toLoadRect f = f :=
  Memref.readAt_unit_zero (Elt F) cc0_stg0_0 (funext fun a => by fin_cases a <;> rfl) _ f
omit [FloatOps F] in
theorem read_wq (f : (cc0_stg1_0 : Ref sig .tc).ty.Contents (Elt F)) :
    (wqM : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg1_0 (funext fun a => by fin_cases a <;> rfl) _ f

section Part1
variable {α : Type} {Q : α → sProp (MT nD τ sig Unit (Elt F) ℕ UU ℕ)}

set_option maxHeartbeats 2000000 in
/-- Part 1: the signals to both neighbours, the wait for theirs, and the first loads. -/
theorem run_part1 {k : (Σ' (d0 : Dev nD) (v5 : BitVec 32) (v7 : BitVec 32) (v19 : FVec F S256x1024 .f32) (v20 : FVec F S64x128 .f32), FVec F S1024x128 .f32) → Prog (TpuEff nD τ sig (Elt F) Λ₀ .tc) α}
    (hk : ∀ w5 w7, iprop(att (qS m ρ c) (kS m ρ c) (vS m ρ c) c 0 0 ∗ Hold1 m ρ K c)
      ⊢ WP c (k ⟨c, w5, w7, qS m ρ c, qCut (qS m ρ c) 0 0, k0_pay3 (kvCut (kS m ρ c) 0 0)⟩) Q) :
    Hold0 m ρ K c ⊢ WP c (k0_part1 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 >>= k) Q := by
  rw [k0_part1_eq_skeleton]; unfold k0_part1_skel
  simp only [semSignalWord, semWaitWord, Prog.lift, Prog.bind_op, Prog.bind_ret, Prog.pure_eq_ret, wp_deviceId]
  simp only [dev1_eq c, dev2_eq c]
  unfold Hold0
  iintro ⟨#HR, #HV, Hk, Hv, Hx, Hq, Hw, Ho, HO, HB, Hc, HT, HF, HA, HD, Ht0, Hp0, Ht1, Hp1, Ht2, Hp2, Ht3, Hp3, Ht4, Hp4, Ht5, Hp5, Ht6, Hp6, Ht7, Hp7, Hr0, Hr1, Hr2, Hr3, Hr4, Hr5, Hr6, Hr7, Hd0, Hd1, Hd2, Hd3, Hd4, Hd5, Hd6, Hd7⟩
  icases HO with ⟨%W, HO⟩
  iapply (Rounds.wp_signal 𝒱₀ ER (ringRd m ρ) (c : Thread nD τ) none (dst := (prv c : Thread nD τ)) (κ := K (prv c, 0))
      (d := true) (show true ∈ (ringRd m ρ).duties (kcell (prv c, 0)) 0 from by rw [duties_at m ρ (prv c) 0]; exact Finset.mem_univ _) ((amount_at m ρ (prv c) 0 true).trans (by decide)) () (O₁ c) rfl)
    $$ [HO HT Hd0 Hd2 Hd4 Hd6]
  · isplitr; · iapply (records_inv m ρ K (prv c, 0)); iexact HR
    isplitl [HO]; · iexact HO
    isplitl [HT]; · iexact HT
    isplitl
    · iapply (Entails.of_eq (paid_true m ρ c))
      isplitl [Hd0]; · iexact Hd0
      isplitl [Hd2]; · iexact Hd2
      isplitl [Hd4] <;> iassumption
    · iapply (records_reached m ρ K (prv c, 0)); iexact HR
  iintro HO
  unfold O₁
  iapply (Rounds.wp_signal 𝒱₀ ER (ringRd m ρ) (c : Thread nD τ) none (dst := (nxt c : Thread nD τ)) (κ := K (nxt c, 0))
      (d := false) (show false ∈ (ringRd m ρ).duties (kcell (nxt c, 0)) 0 from by rw [duties_at m ρ (nxt c) 0]; exact Finset.mem_univ _) ((amount_at m ρ (nxt c) 0 false).trans (by decide)) () (Ow c 8) rfl)
    $$ [HO HF Hd1 Hd3 Hd5 Hd7]
  · isplitr; · iapply (records_inv m ρ K (nxt c, 0)); iexact HR
    isplitl [HO]; · iexact HO
    isplitl [HF]; · iexact HF
    isplitl
    · iapply (Entails.of_eq (paid_false m ρ c))
      isplitl [Hd1]; · iexact Hd1
      isplitl [Hd3]; · iexact Hd3
      isplitl [Hd5] <;> iassumption
    · iapply (records_reached m ρ K (nxt c, 0)); iexact HR
  iintro HO
  iapply (Rounds.wp_wait_rest_token 𝒱₀ ER (ringRd m ρ) (c : Thread nD τ) none (κ := K (c, 0))
      (wpE_semWait_eq 𝒱₀ (c : Thread nD τ) none Set.univ) (Set.mem_univ _) () (O := Ow c 8) (W := W) (R := 0) (m := 0) (T := ∅)
      (show 0 + 2 = (ringRd m ρ).expect (kcell (c, 0)) 0 from by rw [expect_bar m ρ c])) $$ [Hc HO HB]
  · isplitr; · iapply (records_inv m ρ K (c, 0)); iexact HR
    isplitl [Hc]; · iexact Hc
    isplitl [HO]; · iexact HO
    isplitr; · iapply (mayWait_bar c); iexact HV
    iexact HB
  iintro ⟨HO, HB, -, Hpay⟩
  ihave Hp := (Entails.of_eq (met m ρ c)) $$ Hpay
  unfold barPay
  icases Hp with ⟨⟨Hb1, Hb3, Hb5, Hb7⟩, Hb0, Hb2, Hb4, Hb6⟩
  imod (Rounds.cell_close ER (ringRd m ρ) (Set.mem_univ (K (c, 0))) (fun h => h) (R := 0 + 1) (duties_later m ρ (kcell (c, 0)))) $$ [HB] with HB
  · isplitr; · iapply (records_inv m ρ K (c, 0)); iexact HR
    iexact HB
  iapply (wp_load 𝒱₀ (c : Thread nD τ) none Set.univ (m := xM) (Finset.subset_univ _)) $$ Hx; iintro Hx
  rw [read_x]
  iapply (wp_load 𝒱₀ (c : Thread nD τ) none Set.univ (m := wqM) (Finset.subset_univ _)) $$ Hq; iintro Hq
  rw [read_wq]
  iapply (wp_load 𝒱₀ (c : Thread nD τ) none Set.univ (m := kM) (Finset.subset_univ _)) $$ Hk; iintro Hk
  ihave Hatt := (att_begin (q := qS m ρ c) c 0) $$ [Hk Hv HA]
  · isplitl [Hk]; · iexact Hk
    isplitl [Hv] <;> iassumption
  ihave HO := (ow_intro c 8) $$ HO
  iapply (hk _ _)
  isplitl [Hatt]; · iexact Hatt
  unfold Hold1
  isplitr; · iexact HR
  isplitr; · iexact HV
  isplitl [Hx]; · iexact Hx
  isplitl [Hq]; · iexact Hq
  isplitl [Hw]; · iexact Hw
  isplitl [Ho]; · iexact Ho
  isplitl [HO]; · iexact HO
  isplitl [HB]; · iexact HB
  isplitl [HD]; · iexact HD
  isplitl [Ht0]; · iexact Ht0
  isplitl [Hp0]; · iexact Hp0
  isplitl [Hb0]; · iexact Hb0
  isplitl [Ht1]; · iexact Ht1
  isplitl [Hp1]; · iexact Hp1
  isplitl [Hb1]; · iexact Hb1
  isplitl [Ht2]; · iexact Ht2
  isplitl [Hp2]; · iexact Hp2
  isplitl [Hb2]; · iexact Hb2
  isplitl [Ht3]; · iexact Ht3
  isplitl [Hp3]; · iexact Hp3
  isplitl [Hb3]; · iexact Hb3
  isplitl [Ht4]; · iexact Ht4
  isplitl [Hp4]; · iexact Hp4
  isplitl [Hb4]; · iexact Hb4
  isplitl [Ht5]; · iexact Ht5
  isplitl [Hp5]; · iexact Hp5
  isplitl [Hb5]; · iexact Hb5
  isplitl [Ht6]; · iexact Ht6
  isplitl [Hp6]; · iexact Hp6
  isplitl [Hb6]; · iexact Hb6
  isplitl [Ht7]; · iexact Ht7
  isplitl [Hp7]; · iexact Hp7
  isplitl [Hb7]; · iexact Hb7
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Hr7

end Part1

set_option maxHeartbeats 4000000 in
/-- The parts in order, and the waits for transfers 4 and 5. -/
theorem run_part33 (hk : Hold10' m ρ K c ⊢ Q ⟨⟩) :
    Hold0 m ρ K c ⊢ WP c (k0_part33 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2) Q := by
  rw [k0_part33_eq_skeleton]; unfold k0_part33_skel
  refine run_part1 m ρ K fun w5 w7 => ?_
  refine run_part2 ?_
  refine run_part3 ?_
  refine run_part4 ?_
  refine run_part5 ?_
  refine run_part6 ?_
  refine run_part7 ?_
  refine run_part8 ?_
  refine run_part9 ?_
  refine run_part10 ?_
  refine run_part11 ?_
  refine run_part12 ?_
  refine run_part13 m ρ K _ _ ?_
  refine run_part14 ?_
  refine run_part15 ?_
  refine run_part16 ?_
  refine run_part17 ?_
  refine run_part18 ?_
  refine run_part19 m ρ K _ ?_
  refine run_part20 m ρ K _ _ ?_
  refine run_part21 ?_
  refine run_part22 ?_
  refine run_part23 ?_
  refine run_part24 ?_
  refine run_part25 ?_
  refine run_part26 _ ?_
  refine run_part27 m ρ K _ _ ?_
  refine run_part28 m ρ K _ fun _ => ?_
  refine run_part29 m ρ K _ _ _ fun _ _ => ?_
  refine run_part30 m ρ K _ _ _ _ fun v0 v1 v2 _ _ h0 h1 h2 => ?_
  refine run_part31 m ρ K _ _ h0 h1 h2 ?_
  refine run_part32 m ρ K ?_
  simp only [Prog.lift, Prog.bind_op, Prog.bind_ret, Prog.pure_eq_ret]
  unfold Hold10
  iintro ⟨#HR, #HV, Hk, Hv, Hx, Hq, Hw, Ho, HO, HB, HA, HD, Hz0, Hg0, Hz1, Hg1, Hz2, Hg2, Hz3, Hg3, Hs4, Hs5, Hs6, Hs7, Hy0, Hl0, He0, Hy1, Hl1, He1, Hy2, Hy3, Hy4, Hl4, He4, Hy5, Hl5, He5, Hy6, Hy7, HJ, HL⟩
  iapply (wp_sent m ρ K 4 c rfl credit_big) $$ [HO Hs4]
  · isplitr; · iexact HR
    isplitl [HO]; · iexact HO
    iexact Hs4
  iintro ⟨HO, Hz4, Hg4⟩
  iapply (wp_sent m ρ K 5 c rfl credit_big) $$ [HO Hs5]
  · isplitr; · iexact HR
    isplitl [HO]; · iexact HO
    iexact Hs5
  iintro ⟨HO, Hz5, Hg5⟩
  unfold WP; rw [wp_ret]; imodintro
  iapply hk
  unfold Hold10'
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hz0]; · iexact Hz0
  isplitl [Hg0]; · iexact Hg0
  isplitl [Hz1]; · iexact Hz1
  isplitl [Hg1]; · iexact Hg1
  isplitl [Hz2]; · iexact Hz2
  isplitl [Hg2]; · iexact Hg2
  isplitl [Hz3]; · iexact Hz3
  isplitl [Hg3]; · iexact Hg3
  isplitl [Hz4]; · iexact Hz4
  isplitl [Hg4]; · iexact Hg4
  isplitl [Hz5]; · iexact Hz5
  isplitl [Hg5]; · iexact Hg5
  isplitl [Hs6]; · iexact Hs6
  isplitl [Hs7]; · iexact Hs7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hy4]; · iexact Hy4
  isplitl [Hl4]; · iexact Hl4
  isplitl [He4]; · iexact He4
  isplitl [Hy5]; · iexact Hy5
  isplitl [Hl5]; · iexact Hl5
  isplitl [He5]; · iexact He5
  isplitl [Hy6]; · iexact Hy6
  isplitl [Hy7]; · iexact Hy7
  isplitl [HJ]; · iexact HJ
  iexact HL

set_option maxRecDepth 65536 in
/-- The same before what follows. -/
theorem wp_part33 {β : Type} {Q : β → sProp (MT nD τ sig Unit (Elt F) ℕ UU ℕ)} {k : PUnit → Prog (TpuEff nD τ sig (Elt F) Λ₀ .tc) β}
    (hk : Hold10' m ρ K c ⊢ WP c (k ⟨⟩) Q) :
    Hold0 m ρ K c ⊢ WP c (k0_part33 xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2 >>= k) Q :=
  (run_part33 m ρ K (Q := fun a => WP c (k a) Q) hk).trans (Entails.of_eq (wp_bind _ _ _ _ _ _).symm)

set_option maxHeartbeats 4000000 in
set_option maxRecDepth 65536 in
/-- The kernel on device `c`, from start to end. -/
theorem run_body (hk : Hold11 m ρ K c ⊢ Q ⟨⟩) :
    Hold0 m ρ K c ⊢ WP c (cc0_body xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2) Q := by
  rw [cc0_body_eq_skeleton]; unfold cc0_body_skel
  refine wp_part33 m ρ K ?_
  simp only [Prog.lift, Prog.bind_op, Prog.bind_ret, Prog.pure_eq_ret]
  unfold Hold10'
  iintro ⟨#HR, #HV, Hk, Hv, Hx, Hq, Hw, Ho, HO, HB, HA, HD, Hz0, Hg0, Hz1, Hg1, Hz2, Hg2, Hz3, Hg3, Hz4, Hg4, Hz5, Hg5, Hs6, Hs7, Hy0, Hl0, He0, Hy1, Hl1, He1, Hy2, Hy3, Hy4, Hl4, He4, Hy5, Hl5, He5, Hy6, Hy7, HJ, HL⟩
  iapply (wp_sent m ρ K 6 c rfl credit_small) $$ [HO Hs6]
  · isplitr; · iexact HR
    isplitl [HO]; · iexact HO
    iexact Hs6
  iintro ⟨HO, Hz6, Hg6⟩
  iapply (wp_sent m ρ K 7 c rfl credit_small) $$ [HO Hs7]
  · isplitr; · iexact HR
    isplitl [HO]; · iexact HO
    iexact Hs7
  iintro ⟨HO, Hz7, Hg7⟩
  unfold WP; rw [wp_ret]; imodintro
  iapply hk
  unfold Hold11
  isplitr; · iexact HR
  isplitr; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HB]; · iexact HB
  isplitl [HA]; · iexact HA
  isplitl [HD]; · iexact HD
  isplitl [Hz0]; · iexact Hz0
  isplitl [Hg0]; · iexact Hg0
  isplitl [Hz1]; · iexact Hz1
  isplitl [Hg1]; · iexact Hg1
  isplitl [Hz2]; · iexact Hz2
  isplitl [Hg2]; · iexact Hg2
  isplitl [Hz3]; · iexact Hz3
  isplitl [Hg3]; · iexact Hg3
  isplitl [Hz4]; · iexact Hz4
  isplitl [Hg4]; · iexact Hg4
  isplitl [Hz5]; · iexact Hz5
  isplitl [Hg5]; · iexact Hg5
  isplitl [Hz6]; · iexact Hz6
  isplitl [Hg6]; · iexact Hg6
  isplitl [Hz7]; · iexact Hz7
  isplitl [Hg7]; · iexact Hg7
  isplitl [Hy0]; · iexact Hy0
  isplitl [Hl0]; · iexact Hl0
  isplitl [He0]; · iexact He0
  isplitl [Hy1]; · iexact Hy1
  isplitl [Hl1]; · iexact Hl1
  isplitl [He1]; · iexact He1
  isplitl [Hy2]; · iexact Hy2
  isplitl [Hy3]; · iexact Hy3
  isplitl [Hy4]; · iexact Hy4
  isplitl [Hl4]; · iexact Hl4
  isplitl [He4]; · iexact He4
  isplitl [Hy5]; · iexact Hy5
  isplitl [Hl5]; · iexact Hl5
  isplitl [He5]; · iexact He5
  isplitl [Hy6]; · iexact Hy6
  isplitl [Hy7]; · iexact Hy7
  isplitl [HJ]; · iexact HJ
  iexact HL

end Run

end Cert.RingProof

end
-- ==== Proof.Close.lean ====
/-
# `Close`: the buffer cut up and put together again, and the kernel's point of the pipeline

At the start a device's whole exchange buffer is cut into the boxes the exchange moves; at the end the boxes, some of them at
two or three shares, are joined to the whole buffer. With that the run of the body fits the pipeline around it: the five
operands staged, the result written.
-/
module

public import proofs.«01_k».proof.Proof.Body
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-! ## The whole buffer in boxes -/

/-- What is left of the buffer once the boxes before the `n`-th are cut off. -/
def tail : ℕ → Finset S4x256x1280.Idx
  | 0 => ownBx 0 ∪ (ownBx 1 ∪ (dstBox 0 ∪ (dstBox 1 ∪ (dstBox 4 ∪ (dstBox 5 ∪ (bx 3 0 256 0 640 ∪ bx 3 0 256 640 1280))))))
  | 1 => ownBx 1 ∪ (dstBox 0 ∪ (dstBox 1 ∪ (dstBox 4 ∪ (dstBox 5 ∪ (bx 3 0 256 0 640 ∪ bx 3 0 256 640 1280)))))
  | 2 => dstBox 0 ∪ (dstBox 1 ∪ (dstBox 4 ∪ (dstBox 5 ∪ (bx 3 0 256 0 640 ∪ bx 3 0 256 640 1280))))
  | 3 => dstBox 1 ∪ (dstBox 4 ∪ (dstBox 5 ∪ (bx 3 0 256 0 640 ∪ bx 3 0 256 640 1280)))
  | 4 => dstBox 4 ∪ (dstBox 5 ∪ (bx 3 0 256 0 640 ∪ bx 3 0 256 640 1280))
  | 5 => dstBox 5 ∪ (bx 3 0 256 0 640 ∪ bx 3 0 256 640 1280)
  | 6 => bx 3 0 256 0 640 ∪ bx 3 0 256 640 1280
  | _ => bx 3 0 256 640 1280

theorem tail_univ : Finset.univ = tail 0 := by
  ext i
  have h0 : (i 0).val < 4 := (i 0).isLt
  have h1 : (i 1).val < 256 := (i 1).isLt
  have h2 : (i 2).val < 1280 := (i 2).isLt
  simp only [tail, ownBx, dstBox, Finset.mem_univ, Finset.mem_union, mem_bx, true_iff]
  omega
theorem tail0_disj : Disjoint (ownBx 0) (tail 1) := Finset.disjoint_left.mpr fun i ha hb => by
  simp only [tail, ownBx, dstBox, Finset.mem_union, mem_bx] at ha hb
  omega
theorem tail0_eq : tail 0 = ownBx 0 ∪ tail 1 := rfl
theorem tail1_disj : Disjoint (ownBx 1) (tail 2) := Finset.disjoint_left.mpr fun i ha hb => by
  simp only [tail, ownBx, dstBox, Finset.mem_union, mem_bx] at ha hb
  omega
theorem tail1_eq : tail 1 = ownBx 1 ∪ tail 2 := rfl
theorem tail2_disj : Disjoint (dstBox 0) (tail 3) := Finset.disjoint_left.mpr fun i ha hb => by
  simp only [tail, ownBx, dstBox, Finset.mem_union, mem_bx] at ha hb
  omega
theorem tail2_eq : tail 2 = dstBox 0 ∪ tail 3 := rfl
theorem tail3_disj : Disjoint (dstBox 1) (tail 4) := Finset.disjoint_left.mpr fun i ha hb => by
  simp only [tail, ownBx, dstBox, Finset.mem_union, mem_bx] at ha hb
  omega
theorem tail3_eq : tail 3 = dstBox 1 ∪ tail 4 := rfl
theorem tail4_disj : Disjoint (dstBox 4) (tail 5) := Finset.disjoint_left.mpr fun i ha hb => by
  simp only [tail, ownBx, dstBox, Finset.mem_union, mem_bx] at ha hb
  omega
theorem tail4_eq : tail 4 = dstBox 4 ∪ tail 5 := rfl
theorem tail5_disj : Disjoint (dstBox 5) (tail 6) := Finset.disjoint_left.mpr fun i ha hb => by
  simp only [tail, ownBx, dstBox, Finset.mem_union, mem_bx] at ha hb
  omega
theorem tail5_eq : tail 5 = dstBox 5 ∪ tail 6 := rfl
theorem tail6_disj : Disjoint (bx 3 0 256 0 640) (tail 7) := Finset.disjoint_left.mpr fun i ha hb => by
  simp only [tail, ownBx, dstBox, Finset.mem_union, mem_bx] at ha hb
  omega
theorem tail6_eq : tail 6 = bx 3 0 256 0 640 ∪ tail 7 := rfl

omit [FloatOps F] in
/-- The whole buffer, cut into the device's own halves and the boxes the eight arrivals will write. -/
theorem cut_up (c : Dev nD) : (raw c Finset.univ : sProp 𝕄)
    ⊢ iprop(raw c (ownBx 0) ∗ raw c (ownBx 1) ∗ raw c (dstBox 0) ∗ raw c (dstBox 1) ∗ raw c (dstBox 2) ∗ raw c (dstBox 3)
      ∗ raw c (dstBox 4) ∗ raw c (dstBox 5) ∗ raw c (dstBox 6) ∗ raw c (dstBox 7)) := by
  simp only [raw_any]
  rw [tail_univ]
  iintro H
  ihave H := (any_split (c := c) tail0_disj tail0_eq) $$ H
  icases H with ⟨Ho0, H⟩
  ihave H := (any_split (c := c) tail1_disj tail1_eq) $$ H
  icases H with ⟨Ho1, H⟩
  ihave H := (any_split (c := c) tail2_disj tail2_eq) $$ H
  icases H with ⟨Hd0, H⟩
  ihave H := (any_split (c := c) tail3_disj tail3_eq) $$ H
  icases H with ⟨Hd1, H⟩
  ihave H := (any_split (c := c) tail4_disj tail4_eq) $$ H
  icases H with ⟨Hd4, H⟩
  ihave H := (any_split (c := c) tail5_disj tail5_eq) $$ H
  icases H with ⟨Hd5, H⟩
  ihave H := (any_split (c := c) tail6_disj tail6_eq) $$ H
  icases H with ⟨HJ, H⟩
  ihave HJ := (any_split (c := c) (S := bx 3 0 256 0 640) opp0_disj opp0_eq) $$ HJ
  icases HJ with ⟨Hd2, Hd3⟩
  ihave H := (any_split (c := c) (S := tail 7) opp1_disj opp1_eq) $$ H
  icases H with ⟨Hd6, Hd7⟩
  isplitl [Ho0]; · iexact Ho0
  isplitl [Ho1]; · iexact Ho1
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  iexact Hd7

omit [FloatOps F] in
theorem join_up (c : Dev nD) : iprop(anyAt c (ownBx 0) fullShare ∗ anyAt c (ownBx 1) fullShare ∗ anyAt c (dstBox 0) fullShare ∗ anyAt c (dstBox 1) fullShare ∗ anyAt c (dstBox 4) fullShare ∗ anyAt c (dstBox 5) fullShare ∗ anyAt c (bx 3 0 256 0 640) fullShare ∗ anyAt c (bx 3 0 256 640 1280) fullShare)
    ⊢ (raw c Finset.univ : sProp 𝕄) := by
  rw [raw_any, tail_univ]
  iintro ⟨Ho0, Ho1, Hd0, Hd1, Hd4, Hd5, HJ, H⟩
  ihave H := (any_join (c := c) tail6_disj tail6_eq) $$ [HJ H]
  · isplitl [HJ]; · iexact HJ
    iexact H
  ihave H := (any_join (c := c) tail5_disj tail5_eq) $$ [Hd5 H]
  · isplitl [Hd5]; · iexact Hd5
    iexact H
  ihave H := (any_join (c := c) tail4_disj tail4_eq) $$ [Hd4 H]
  · isplitl [Hd4]; · iexact Hd4
    iexact H
  ihave H := (any_join (c := c) tail3_disj tail3_eq) $$ [Hd1 H]
  · isplitl [Hd1]; · iexact Hd1
    iexact H
  ihave H := (any_join (c := c) tail2_disj tail2_eq) $$ [Hd0 H]
  · isplitl [Hd0]; · iexact Hd0
    iexact H
  ihave H := (any_join (c := c) tail1_disj tail1_eq) $$ [Ho1 H]
  · isplitl [Ho1]; · iexact Ho1
    iexact H
  ihave H := (any_join (c := c) tail0_disj tail0_eq) $$ [Ho0 H]
  · isplitl [Ho0]; · iexact Ho0
    iexact H
  iexact H

omit [FloatOps F] in
/-- A box held at the left share and at the two halves of the right share is held. -/
theorem three_shares {c : Dev nD} {S : Finset S4x256x1280.Idx} :
    iprop(anyAt c S fullShare.left ∗ anyAt c S fullShare.right.left ∗ anyAt c S fullShare.right.right) ⊢ (anyAt c S fullShare : sProp 𝕄) := by
  iintro ⟨H1, H2, H3⟩
  iapply (any_share (F := F) (PosShare.mem_left_op_right fullShare))
  isplitl [H1]; · iexact H1
  iapply (any_share (F := F) (PosShare.mem_left_op_right fullShare.right))
  isplitl [H2] <;> iassumption

omit [FloatOps F] in
/-- A box held at the left share, and in two pieces at the right share, is held. -/
theorem two_pieces {c : Dev nD} {S A B : Finset S4x256x1280.Idx} (hd : Disjoint A B) (hS : S = A ∪ B) :
    iprop(anyAt c S fullShare.left ∗ anyAt c A fullShare.right ∗ anyAt c B fullShare.right) ⊢ (anyAt c S fullShare : sProp 𝕄) := by
  iintro ⟨H1, H2, H3⟩
  iapply (any_share (F := F) (PosShare.mem_left_op_right fullShare))
  isplitl [H1]; · iexact H1
  iapply (any_join (F := F) hd hS)
  isplitl [H2] <;> iassumption

/-- What the body leaves: the operands as they were, the result, nothing owed, the exchange buffer whole, every cell closed. -/
def after (c : Dev nD) : sProp 𝕄 :=
  iprop(stgPts c cc0_stg2_0 (kS m ρ c) ∗ stgPts c cc0_stg3_0 (vS m ρ c) ∗ stgPts c cc0_stg0_0 (xS m ρ c) ∗ stgPts c cc0_stg1_0 (wqS m ρ c)
    ∗ stgPts c cc0_stg4_0 (woS m ρ c) ∗ stgPts c cc0_stg5_0 (outAt m ρ c) ∗ ow c 0 ∗ raw c Finset.univ
    ∗ shut c 0 ∗ shut c (sIx 0) ∗ shut c (sIx 1) ∗ shut c (sIx 2) ∗ shut c (sIx 3) ∗ shut c (sIx 4) ∗ shut c (sIx 5) ∗ shut c (sIx 6) ∗ shut c (sIx 7)
    ∗ shut c (rIx 0) ∗ shut c (rIx 1) ∗ shut c (rIx 2) ∗ shut c (rIx 3) ∗ shut c (rIx 4) ∗ shut c (rIx 5) ∗ shut c (rIx 6) ∗ shut c (rIx 7))

set_option maxHeartbeats 1000000 in
theorem rejoin (c : Dev nD) : Hold11 m ρ K c ⊢ after m ρ c := by
  unfold Hold11 after
  iintro ⟨-, -, Hk, Hv, Hx, Hq, Hw, Ho, HO, Hz, HA, HB, Hs0, Hg0, Hs1, Hg1, Hs2, Hg2, Hs3, Hg3, Hs4, Hg4, Hs5, Hg5, Hs6, Hg6, Hs7, Hg7, Hr0, Hl0, He0, Hr1, Hl1, He1, Hr2, Hr3, Hr4, Hl4, He4, Hr5, Hl5, He5, Hr6, Hr7, HJ, HL⟩
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexact HO
  isplitl [HA HB Hg0 Hg1 Hg2 Hg3 Hg4 Hg5 Hg6 Hg7 Hl0 He0 Hl1 He1 Hl4 He4 Hl5 He5 HJ HL]
  · iapply (join_up (F := F) c)
    isplitl [HA Hg0 Hg1]
    · iapply (three_shares (F := F) (c := c))
      isplitl [HA]; · iapply (held_any m ρ c (srcBox 0) fullShare.left c); iexact HA
      isplitl [Hg0]; · iapply (held_any m ρ c (srcBox 0) (srcShare 0) (srcOrigin 0 c)); iexact Hg0
      iapply (held_any m ρ c (srcBox 1) (srcShare 1) (srcOrigin 1 c)); iexact Hg1
    isplitl [HB Hg4 Hg5]
    · iapply (three_shares (F := F) (c := c))
      isplitl [HB]; · iapply (held_any m ρ c (srcBox 4) fullShare.left c); iexact HB
      isplitl [Hg4]; · iapply (held_any m ρ c (srcBox 4) (srcShare 4) (srcOrigin 4 c)); iexact Hg4
      iapply (held_any m ρ c (srcBox 5) (srcShare 5) (srcOrigin 5 c)); iexact Hg5
    isplitl [Hl0 Hg2 He0]
    · iapply (two_pieces (F := F) (c := c) fwd0_disj fwd0_eq)
      isplitl [Hl0]; · iapply (held_any m ρ c (dstBox 0) fullShare.left (origin 0 c)); iexact Hl0
      isplitl [Hg2]; · iapply (held_any m ρ c (srcBox 2) (srcShare 2) (srcOrigin 2 c)); iexact Hg2
      iapply (held_any m ρ c (bx 1 128 256 0 640) fullShare.right (origin 0 c)); iexact He0
    isplitl [Hl1 Hg3 He1]
    · iapply (two_pieces (F := F) (c := c) fwd1_disj fwd1_eq)
      isplitl [Hl1]; · iapply (held_any m ρ c (dstBox 1) fullShare.left (origin 1 c)); iexact Hl1
      isplitl [Hg3]; · iapply (held_any m ρ c (srcBox 3) (srcShare 3) (srcOrigin 3 c)); iexact Hg3
      iapply (held_any m ρ c (bx 2 0 128 0 640) fullShare.right (origin 1 c)); iexact He1
    isplitl [Hl4 Hg6 He4]
    · iapply (two_pieces (F := F) (c := c) fwd4_disj fwd4_eq)
      isplitl [Hl4]; · iapply (held_any m ρ c (dstBox 4) fullShare.left (origin 4 c)); iexact Hl4
      isplitl [Hg6]; · iapply (held_any m ρ c (srcBox 6) (srcShare 6) (srcOrigin 6 c)); iexact Hg6
      iapply (held_any m ρ c (bx 1 128 256 640 1280) fullShare.right (origin 4 c)); iexact He4
    isplitl [Hl5 Hg7 He5]
    · iapply (two_pieces (F := F) (c := c) fwd5_disj fwd5_eq)
      isplitl [Hl5]; · iapply (held_any m ρ c (dstBox 5) fullShare.left (origin 5 c)); iexact Hl5
      isplitl [Hg7]; · iapply (held_any m ρ c (srcBox 7) (srcShare 7) (srcOrigin 7 c)); iexact Hg7
      iapply (held_any m ρ c (bx 2 0 128 640 1280) fullShare.right (origin 5 c)); iexact He5
    isplitl [HJ]; · iapply (held_any m ρ c (bx 3 0 256 0 640) fullShare (origin 2 c)); iexact HJ
    iapply (held_any m ρ c (bx 3 0 256 640 1280) fullShare (origin 6 c)); iexact HL
  isplitl [Hz]; · iexact Hz
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Hr7

/-! ## The point -/

/-- What device `c`'s body starts from: the records under some names, its positions, the tokens of what it pays, its
    credits and the levels. -/
def start (c : Dev nD) : sProp 𝕄 :=
  iprop((∃ K, records m ρ K
      ∗ atPos ER (kcell (c, 0)) 0 ∅ 0 ∗ (bigSep Finset.univ fun k : Fin 8 => atPos ER (kcell (c, sIx k)) 0 ∅ 0)
      ∗ (bigSep Finset.univ fun k : Fin 8 => atPos ER (kcell (c, rIx k)) 0 ∅ 0)
      ∗ dutyTok ER (kcell (prv c, 0)) 0 true ∗ dutyTok ER (kcell (nxt c, 0)) 0 false ∗ bigSep Finset.univ fun k : Fin 8 => pushRes c k)
    ∗ cred (tallyAt (kcell (c, 0)) () 2) ∗ (bigSep Finset.univ fun k : Fin 8 => cred (tallyAt (kcell (c, rIx k)) () (amt k)))
    ∗ levAts L lv)

def shuts (c : Dev nD) : sProp 𝕄 :=
  iprop(shut c 0 ∗ (bigSep Finset.univ fun k : Fin 8 => shut c (sIx k)) ∗ bigSep Finset.univ fun k : Fin 8 => shut c (rIx k))

def Φ₀ (c : Dev nD) : sProp 𝕄 := iprop(start m ρ c ∗ raw c Finset.univ)
def Φ₁ (c : Dev nD) : sProp 𝕄 := iprop(raw c Finset.univ ∗ shuts c)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => wqS m ρ c
    | ⟨2, _⟩ => kS m ρ c
    | ⟨3, _⟩ => vS m ρ c
    | ⟨4, _⟩ => woS m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ stgPts c b f) := by
  unfold owns; simp only [Memref.view_whole, View.read_whole, View.set_whole]

set_option maxHeartbeats 1000000 in
/-- Before the point: what the pipeline has staged, and what the body starts from. -/
theorem gather (c : Dev nD) (W : Waits sig Unit) :
    iprop(Φ₀ m ρ c ∗ owes (c : Thread nD τ) (O₀ c) W ∗ stgPts c cc0_stg0_0 (xS m ρ c) ∗ stgPts c cc0_stg1_0 (wqS m ρ c) ∗ stgPts c cc0_stg2_0 (kS m ρ c)
      ∗ stgPts c cc0_stg3_0 (vS m ρ c) ∗ stgPts c cc0_stg4_0 (woS m ρ c) ∗ ∃ f : Buf (Elt F) ((c : Thread nD τ).loc cc0_stg5_0), stgPts c cc0_stg5_0 f)
      ⊢ iprop(∃ K, Hold0 m ρ K c) := by
  unfold Φ₀ start Hold0
  simp only [bigSep_fin8]
  iintro ⟨⟨⟨⟨%K, HR, HP, ⟨Hp0, Hp1, Hp2, Hp3, Hp4, Hp5, Hp6, Hp7⟩, ⟨Hq0, Hq1, Hq2, Hq3, Hq4, Hq5, Hq6, Hq7⟩, HT, HF, Ht0, Ht1, Ht2, Ht3, Ht4, Ht5, Ht6, Ht7⟩, HC, ⟨Hc0, Hc1, Hc2, Hc3, Hc4, Hc5, Hc6, Hc7⟩, HV⟩, Hbuf⟩, HO, Hx, Hq, Hk, Hv, Hw, Ho⟩
  ihave Hb := (cut_up (F := F) c) $$ Hbuf
  icases Hb with ⟨Ho0, Ho1, Hd0, Hd1, Hd2, Hd3, Hd4, Hd5, Hd6, Hd7⟩
  iexists K
  isplitl [HR]; · iexact HR
  isplitl [HV]; · iexact HV
  isplitl [Hk]; · iexact Hk
  isplitl [Hv]; · iexact Hv
  isplitl [Hx]; · iexact Hx
  isplitl [Hq]; · iexact Hq
  isplitl [Hw]; · iexact Hw
  isplitl [Ho]; · iexact Ho
  isplitl [HO]; · iexists W; iexact HO
  isplitl [HP]; · iexact HP
  isplitl [HC]; · iexact HC
  isplitl [HT]; · iexact HT
  isplitl [HF]; · iexact HF
  isplitl [Ho0]; · iexact Ho0
  isplitl [Ho1]; · iexact Ho1
  isplitl [Ht0]; · iexact Ht0
  isplitl [Hp0]; · iexact Hp0
  isplitl [Ht1]; · iexact Ht1
  isplitl [Hp1]; · iexact Hp1
  isplitl [Ht2]; · iexact Ht2
  isplitl [Hp2]; · iexact Hp2
  isplitl [Ht3]; · iexact Ht3
  isplitl [Hp3]; · iexact Hp3
  isplitl [Ht4]; · iexact Ht4
  isplitl [Hp4]; · iexact Hp4
  isplitl [Ht5]; · iexact Ht5
  isplitl [Hp5]; · iexact Hp5
  isplitl [Ht6]; · iexact Ht6
  isplitl [Hp6]; · iexact Hp6
  isplitl [Ht7]; · iexact Ht7
  isplitl [Hp7]; · iexact Hp7
  isplitl [Hq0 Hc0]
  · unfold recvRes; isplitl [Hq0]; · iexact Hq0
    iexact Hc0
  isplitl [Hq1 Hc1]
  · unfold recvRes; isplitl [Hq1]; · iexact Hq1
    iexact Hc1
  isplitl [Hq2 Hc2]
  · unfold recvRes; isplitl [Hq2]; · iexact Hq2
    iexact Hc2
  isplitl [Hq3 Hc3]
  · unfold recvRes; isplitl [Hq3]; · iexact Hq3
    iexact Hc3
  isplitl [Hq4 Hc4]
  · unfold recvRes; isplitl [Hq4]; · iexact Hq4
    iexact Hc4
  isplitl [Hq5 Hc5]
  · unfold recvRes; isplitl [Hq5]; · iexact Hq5
    iexact Hc5
  isplitl [Hq6 Hc6]
  · unfold recvRes; isplitl [Hq6]; · iexact Hq6
    iexact Hc6
  isplitl [Hq7 Hc7]
  · unfold recvRes; isplitl [Hq7]; · iexact Hq7
    iexact Hc7
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  iexact Hd7

/-- A staging buffer whose contents are `X`. -/
def stg (c : Dev nD) (b : Ref sig .tc) (X : b.ty.Contents (Elt F)) : sProp 𝕄 :=
  iprop(∃ f : Buf (Elt F) (((c : Dev nD) : Thread nD τ).loc b), ⌜f = X⌝ ∗ stgPts c b f)

omit [FloatOps F] in
theorem stg_elim {c : Dev nD} {b : Ref sig .tc} {X : b.ty.Contents (Elt F)} : stg c b X ⊢ (stgPts c b X : sProp 𝕄) := by
  unfold stg
  iintro ⟨%f, %h, H⟩
  subst h; iexact H
omit [FloatOps F] in
theorem stg_intro {c : Dev nD} {b : Ref sig .tc} {X : b.ty.Contents (Elt F)} : (stgPts c b X : sProp 𝕄) ⊢ stg c b X := by
  unfold stg
  iintro H
  iexists X; isplitr; · ipureintro; rfl
  iexact H

/-- What the pipeline gives the point, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- and what it takes back. -/
def bodyPost (c : Dev nD) : sProp 𝕄 :=
  iprop(Φ₁ c ∗ (dats m ρ 0 c).owesAt () t0_0.succ
    ∗ stg c cc0_stg0_0 (xS m ρ c) ∗ stg c cc0_stg1_0 (wqS m ρ c) ∗ stg c cc0_stg2_0 (kS m ρ c)
    ∗ stg c cc0_stg3_0 (vS m ρ c) ∗ stg c cc0_stg4_0 (woS m ρ c) ∗ stg c cc0_stg5_0 (outAt m ρ c))

theorem staged0 (c : Dev nD) : iprop(∃ d, stg c cc0_stg0_0 ((dats m ρ 0 c).before (0 : Fin 6) t0_0 d)) ⊢ (stgPts c cc0_stg0_0 (xS m ρ c) : sProp 𝕄) := by
  iintro ⟨%d, H⟩
  iapply stg_elim
  rw [show (dats m ρ 0 c).before (0 : Fin 6) t0_0 d = xS m ρ c from by unfold Dat.before; rw [if_pos (fetch0_0 t0_0)]; rfl]
  iexact H
theorem staged1 (c : Dev nD) : iprop(∃ d, stg c cc0_stg1_0 ((dats m ρ 0 c).before (1 : Fin 6) t0_0 d)) ⊢ (stgPts c cc0_stg1_0 (wqS m ρ c) : sProp 𝕄) := by
  iintro ⟨%d, H⟩
  iapply stg_elim
  rw [show (dats m ρ 0 c).before (1 : Fin 6) t0_0 d = wqS m ρ c from by unfold Dat.before; rw [if_pos (fetch0_1 t0_0)]; rfl]
  iexact H
theorem staged2 (c : Dev nD) : iprop(∃ d, stg c cc0_stg2_0 ((dats m ρ 0 c).before (2 : Fin 6) t0_0 d)) ⊢ (stgPts c cc0_stg2_0 (kS m ρ c) : sProp 𝕄) := by
  iintro ⟨%d, H⟩
  iapply stg_elim
  rw [show (dats m ρ 0 c).before (2 : Fin 6) t0_0 d = kS m ρ c from by unfold Dat.before; rw [if_pos (fetch0_2 t0_0)]; rfl]
  iexact H
theorem staged3 (c : Dev nD) : iprop(∃ d, stg c cc0_stg3_0 ((dats m ρ 0 c).before (3 : Fin 6) t0_0 d)) ⊢ (stgPts c cc0_stg3_0 (vS m ρ c) : sProp 𝕄) := by
  iintro ⟨%d, H⟩
  iapply stg_elim
  rw [show (dats m ρ 0 c).before (3 : Fin 6) t0_0 d = vS m ρ c from by unfold Dat.before; rw [if_pos (fetch0_3 t0_0)]; rfl]
  iexact H
theorem staged4 (c : Dev nD) : iprop(∃ d, stg c cc0_stg4_0 ((dats m ρ 0 c).before (4 : Fin 6) t0_0 d)) ⊢ (stgPts c cc0_stg4_0 (woS m ρ c) : sProp 𝕄) := by
  iintro ⟨%d, H⟩
  iapply stg_elim
  rw [show (dats m ρ 0 c).before (4 : Fin 6) t0_0 d = woS m ρ c from by unfold Dat.before; rw [if_pos (fetch0_4 t0_0)]; rfl]
  iexact H

theorem enter (c : Dev nD) : bodyPre m ρ c ⊢ iprop(∃ K, Hold0 m ρ K c) := by
  unfold bodyPre Dat.owesAt Pipeline.owesWithin
  rw [show (dats m ρ 0 c).owed t0_0.castSucc = O₀ c from rfl]
  iintro ⟨HΦ, ⟨%W, -, HO⟩, H0, H1, H2, H3, H4, ⟨%d, H5⟩⟩
  iapply (gather m ρ c W)
  isplitl [HΦ]; · iexact HΦ
  isplitl [HO]; · iexact HO
  isplitl [H0]; · iapply (staged0 m ρ c); iexact H0
  isplitl [H1]; · iapply (staged1 m ρ c); iexact H1
  isplitl [H2]; · iapply (staged2 m ρ c); iexact H2
  isplitl [H3]; · iapply (staged3 m ρ c); iexact H3
  isplitl [H4]; · iapply (staged4 m ρ c); iexact H4
  iexists _; iapply stg_elim; iexact H5

theorem leave (c : Dev nD) : after m ρ c ⊢ bodyPost m ρ c := by
  unfold after bodyPost Φ₁ shuts Dat.owesAt Pipeline.owesWithin ow
  simp only [bigSep_fin8]
  rw [show (dats m ρ 0 c).owed t0_0.succ = Ow c 0 from rfl]
  iintro ⟨Hk, Hv, Hx, Hq, Hw, Ho, ⟨%W, HO⟩, Hb, Hz, Hs0, Hs1, Hs2, Hs3, Hs4, Hs5, Hs6, Hs7, Hr0, Hr1, Hr2, Hr3, Hr4, Hr5, Hr6, Hr7⟩
  isplitl [Hb Hz Hs0 Hr0 Hs1 Hr1 Hs2 Hr2 Hs3 Hr3 Hs4 Hr4 Hs5 Hr5 Hs6 Hr6 Hs7 Hr7]
  · isplitl [Hb]; · iexact Hb
    isplitl [Hz]; · iexact Hz
    isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [HO]
  · iexists W
    isplitr; · ipureintro; exact fun _ _ => Or.inl trivial
    iexact HO
  isplitl [Hx]; · iapply stg_intro; iexact Hx
  isplitl [Hq]; · iapply stg_intro; iexact Hq
  isplitl [Hk]; · iapply stg_intro; iexact Hk
  isplitl [Hv]; · iapply stg_intro; iexact Hv
  isplitl [Hw]; · iapply stg_intro; iexact Hw
  iapply stg_intro; iexact Ho

theorem run_point (c : Dev nD) :
    bodyPre m ρ c ⊢ WP c (cc0_body xM (Memref.isWhole_whole _) wqM (Memref.isWhole_whole _) kM (Memref.isWhole_whole _) vM (Memref.isWhole_whole _) woM (Memref.isWhole_whole _) outM (Memref.isWhole_whole _) commM (Memref.isWhole_whole _) cc0_scratch1 cc0_scratch2)
      (fun _ => bodyPost m ρ c) := by
  iintro H
  ihave H' := (enter m ρ c) $$ H
  icases H' with ⟨%K, H⟩
  iapply (run_body m ρ K (c := c) (Q := fun _ => bodyPost m ρ c) ((rejoin m ρ K c).trans (leave m ρ c)))
  iexact H

set_option maxRecDepth 100000 in
theorem body_obligation (c : Dev nD) : BodyObligation (dats (F := F) m ρ 0 c) (defs₀ (F := F)) 𝒱₀ () Set.univ := fun t => by
  rw [fin_N0 t, bigSep_W0, bigSep_W0]
  simp only [owns_whole_eq]
  exact run_point m ρ c

end Cert.RingProof

end
-- ==== Proof.Launch.lean ====
/-
# `Launch`: the whole program

The launch deals every device its cells' ghost state, exchanges the tokens around the ring, and hands each device the credit
of what the others owe it; the pipeline's theorem then runs the whole program on the four devices.
-/
module

public import proofs.«01_k».proof.Proof.Close
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem ownSemFacts : Pipeline.OwnSemFacts cfg0.spec osem := by decide

theorem share_eq (c : Dev nD) (w : Fin cfg0.W) : (dats m ρ 0 c).share w = fullShare := by unfold Dat.share; split <;> rfl

theorem kcell_inj {a b : Dev nD × Fin 17} (h : kcell a = kcell b) : a = b := by
  have h1 : a.1 = b.1 := congrArg (fun g : GSem nD τ sig => g.1.1) h
  have h2 : a.2 = b.2 := csem_inj (congrArg Prod.snd h)
  exact Prod.ext h1 h2
def ringCells : Finset (GSem nD τ sig) := Finset.univ.map ⟨kcell, fun _ _ => kcell_inj⟩

/-- A device's eighteen duties: its barrier cell's second one first, then one of every cell. -/
def dutyIx (j : Fin 18) : Fin 17 × Bool := if h : j.val = 0 then (0, true) else (⟨j.val - 1, by omega⟩, false)
theorem dutyIx_inj : Function.Injective dutyIx := by decide
abbrev tokOf (cj : Dev nD × Fin 18) : GSem nD τ sig × ℕ × Bool := (kcell (cj.1, (dutyIx cj.2).1), 0, (dutyIx cj.2).2)
theorem tokOf_injective : Function.Injective tokOf := by
  rintro ⟨c, j⟩ ⟨c', j'⟩ h
  have h1 := kcell_inj (congrArg Prod.fst h)
  have h2 : (dutyIx j).2 = (dutyIx j').2 := congrArg (fun x : GSem nD τ sig × ℕ × Bool => x.2.2) h
  have h3 : j = j' := dutyIx_inj (Prod.ext (congrArg Prod.snd h1) h2)
  exact Prod.ext (show c = c' from congrArg Prod.fst h1) h3
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the duties on device `c`'s own cells. -/
def toks (c : Dev nD) : sProp 𝕄 := bigSep Finset.univ fun j : Fin 18 => dutyTok ER (kcell (c, (dutyIx j).1)) 0 (dutyIx j).2

/-- What the launch deals device `c`. -/
def G (c : Dev nD) : sProp 𝕄 :=
  iprop((bigSep Finset.univ fun k : Fin 17 => roundState ER (ringRd m ρ) (kcell (c, k)) 0)
    ∗ (bigSep Finset.univ fun k : Fin 17 => iprop(atPos ER (kcell (c, k)) 0 ∅ 0 ∗ reached ER (kcell (c, k)) 0)) ∗ toks c)

/-- The tokens of the duties device `c` pays. -/
def payToks (c : Dev nD) : sProp 𝕄 :=
  iprop(dutyTok ER (kcell (prv c, 0)) 0 true ∗ dutyTok ER (kcell (nxt c, 0)) 0 false ∗ bigSep Finset.univ fun k : Fin 8 => pushRes c k)

/-- What device `c` has once the cells' invariants are allocated. -/
def G' (c : Dev nD) : sProp 𝕄 :=
  iprop(∃ K, records m ρ K
    ∗ atPos ER (kcell (c, 0)) 0 ∅ 0 ∗ (bigSep Finset.univ fun k : Fin 8 => atPos ER (kcell (c, sIx k)) 0 ∅ 0)
    ∗ (bigSep Finset.univ fun k : Fin 8 => atPos ER (kcell (c, rIx k)) 0 ∅ 0)
    ∗ payToks c)

omit [FloatOps F] in
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem sep_flat (P Q R : sProp 𝕄) : iprop((P ∗ Q) ∗ R) = iprop(P ∗ Q ∗ R) :=
  Idealize.SL.BI.Entails.antisymm Idealize.SL.BI.sep_assoc Idealize.SL.BI.sep_assoc'

omit [FloatOps F] in
/-- Seventeen cells: the barrier's, the eight send cells, the eight receive cells. -/
theorem cells_split (Φ : Fin 17 → sProp 𝕄) : bigSep Finset.univ Φ
    = iprop(Φ 0 ∗ (bigSep Finset.univ fun k : Fin 8 => Φ (sIx k)) ∗ bigSep Finset.univ fun k : Fin 8 => Φ (rIx k)) := by
  rw [bigSep_fin17, bigSep_fin8, bigSep_fin8]
  simp only [sep_flat]
  rfl

omit [FloatOps F] in
theorem toks_eq (c : Dev nD) : (toks c : sProp 𝕄)
    = iprop(dutyTok ER (kcell (c, 0)) 0 true ∗ bigSep Finset.univ fun i : Fin 17 => dutyTok ER (kcell (c, i)) 0 false) := by
  unfold toks
  rw [bigSep_univ_eq_bigSepL [0, 1, 2, 3, 4, 5, 6, 7, 8, 9, 10, 11, 12, 13, 14, 15, 16, 17] (by decide) (by decide), bigSep_fin17]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 16 => semVal ((c.tc : Thread nD τ), osem i) 0 := rfl
omit [FloatOps F] in
theorem unscopedSems0_eq (c : Dev nD) : (unscopedSems0 c : sProp 𝕄) = semVal ((c.tc : Thread nD τ), SemLoc.reg barS) 0 := by
  unfold unscopedSems0; rw [bigSep_eq_bigSepL_of_eq [SemLoc.reg barS] (by decide) (by decide)]; rfl

omit [FloatOps F] in
/-- The seventeen counters: the runtime's barrier and the kernel's own sixteen. -/
theorem sems_eq (c : Dev nD) :
    (bigSep Finset.univ fun k : Fin 17 => shut c k : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin16, bigSep_fin17]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 17 => shut c k) ∗ bigSep Finset.univ fun k : Fin 17 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens around the ring -/

/-- Every transfer of every device, seen from where it lands. -/
def landing : Dev nD × Fin 8 ≃ Dev nD × Fin 8 where
  toFun ck := (peer ck.2 ck.1, ck.2)
  invFun ck := ((peer ck.2).symm ck.1, ck.2)
  left_inv ck := by simp
  right_inv ck := by simp

omit [FloatOps F] in
theorem toks_landing : (bigSep Finset.univ fun c : Dev nD => bigSep Finset.univ fun k : Fin 8 => (dutyTok ER (kcell (c, rIx k)) 0 false : sProp 𝕄))
    = bigSep Finset.univ fun c : Dev nD => bigSep Finset.univ fun k : Fin 8 => (dutyTok ER (kcell (peer k c, rIx k)) 0 false : sProp 𝕄) := by
  rw [← bigSep_univ_prod (fun ck : Dev nD × Fin 8 => (dutyTok ER (kcell (ck.1, rIx ck.2)) 0 false : sProp 𝕄)),
    bigSep_univ_equiv landing, bigSep_univ_prod]
  rfl

omit [FloatOps F] in
theorem toks_around : (bigSep Finset.univ fun c : Dev nD => (toks c : sProp 𝕄)) ⊢ bigSep Finset.univ fun c : Dev nD => payToks c := by
  have e : (fun c : Dev nD => (toks c : sProp 𝕄)) = fun c : Dev nD => iprop(dutyTok ER (kcell (c, 0)) 0 true ∗ dutyTok ER (kcell (c, 0)) 0 false
      ∗ (bigSep Finset.univ fun k : Fin 8 => dutyTok ER (kcell (c, sIx k)) 0 false)
      ∗ bigSep Finset.univ fun k : Fin 8 => dutyTok ER (kcell (c, rIx k)) 0 false) := by
    funext c; rw [toks_eq, cells_split]
  rw [e]
  unfold payToks pushRes
  simp only [bigSep_sep']
  rw [bigSep_univ_equiv turn (fun c : Dev nD => (dutyTok ER (kcell (c, 0)) 0 false : sProp 𝕄)),
    bigSep_univ_equiv turn.symm (fun c : Dev nD => (dutyTok ER (kcell (c, 0)) 0 true : sProp 𝕄)), toks_landing]
  iintro ⟨H1, H2, H3, H4⟩
  isplitl [H1]; · iexact H1
  isplitl [H2]; · iexact H2
  isplitl [H3]; · iexact H3
  iexact H4

theorem deal (K : Dev nD × Fin 17 → ℕ) (c : Dev nD) :
    iprop(records m ρ K ∗ (bigSep Finset.univ fun k : Fin 17 => atPos ER (kcell (c, k)) 0 ∅ 0) ∗ payToks c) ⊢ G' m ρ c := by
  rw [cells_split]
  unfold G'
  iintro ⟨HR, ⟨HB, HS, HV⟩, HT⟩
  iexists K
  isplitl [HR]; · iexact HR
  isplitl [HB]; · iexact HB
  isplitl [HS]; · iexact HS
  isplitl [HV]; · iexact HV
  iexact HT

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (ringRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => deal m ρ K c)
  isplitr
  · unfold records; isplitl; · iexact HI
    iexact HR
  · iapply (Entails.of_eq (bigSep_sep' Finset.univ (fun c : Dev nD => bigSep Finset.univ fun k : Fin 17 => (atPos ER (kcell (c, k)) 0 ∅ 0 : sProp 𝕄)) payToks).symm)
    isplitl [Hat]; · iexact Hat
    iexact Htk

/-- Every device's semaphores at once become the cells of the protocol. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_iff {a b : Dev nD × Fin 17} : kcell a = kcell b ↔ a = b := ⟨kcell_inj, fun h => h ▸ rfl⟩
theorem rIx_ne (k : Fin 8) : rIx k ≠ 0 := fun h => by have := congrArg Fin.val h; simp [rIx] at this
theorem rIx_inj {k k' : Fin 8} (h : rIx k = rIx k') : k = k' := by
  have h' : 9 + k.val = 9 + k'.val := congrArg Fin.val h
  exact Fin.ext (by omega)

/-- What the transfers owe a barrier cell: nothing; -/
theorem Ow_bar (d c : Dev nD) (n : ℕ) : Ow d n (kcell (c, 0)) () = 0 := by
  by_contra h
  obtain ⟨k, -, e⟩ := Ow_pos (Nat.pos_of_ne_zero h)
  exact rIx_ne k (congrArg Prod.snd (kcell_inj e)).symm

/-- and a receive cell: its credit, if the transfer is one of the last `n` and goes there. -/
theorem Ow_recv (d c : Dev nD) (k : Fin 8) (n : ℕ) (hn : n ≤ 8) :
    Ow d n (kcell (c, rIx k)) () = if 8 ≤ k.val + n ∧ peer k d = c then amt k else 0 := by
  induction n with
  | zero => rw [if_neg (fun h => by have := h.1; omega)]; rfl
  | succ n ih =>
    unfold Ow
    rw [Pi.add_apply, Finsupp.add_apply, tallyAt_apply, ih (by omega)]
    by_cases hk : k.val = 7 - n
    · have e : (⟨7 - n, by omega⟩ : Fin 8) = k := Fin.ext hk.symm
      rw [e, if_neg (fun h => by have := h.1; omega), Nat.zero_add]
      by_cases hp : peer k d = c
      · rw [if_pos ⟨by rw [hp], rfl⟩, if_pos ⟨by omega, hp⟩]
      · rw [if_neg (fun h => hp (congrArg Prod.fst (kcell_inj h.1)).symm), if_neg (fun h => hp h.2)]
    · rw [if_neg (c := kcell (c, rIx k) = _ ∧ _) (fun h => hk (congrArg Fin.val (rIx_inj (congrArg Prod.snd (kcell_inj h.1))))), Nat.add_zero]
      have : (8 ≤ k.val + n) ↔ 8 ≤ k.val + (n + 1) := ⟨fun h => by omega, fun h => by have := k.isLt; omega⟩
      simp only [this]

theorem owed_bar (d c : Dev nD) : O₀ d (kcell (c, 0)) () = (if d = prv c then 1 else 0) + (if d = nxt c then 1 else 0) := by
  unfold O₀ O₁
  rw [Pi.add_apply, Finsupp.add_apply, Pi.add_apply, Finsupp.add_apply, tallyAt_apply, tallyAt_apply, Ow_bar, Nat.zero_add]
  congr 1
  · by_cases h : d = prv c
    · subst h; rw [nxt_prv, if_pos ⟨rfl, rfl⟩, if_pos rfl]
    · rw [if_neg (fun h1 => h (by rw [show c = nxt d from congrArg Prod.fst (kcell_inj h1.1), prv_nxt])), if_neg h]
  · by_cases h : d = nxt c
    · subst h; rw [prv_nxt, if_pos ⟨rfl, rfl⟩, if_pos rfl]
    · rw [if_neg (fun h1 => h (by rw [show c = prv d from congrArg Prod.fst (kcell_inj h1.1), nxt_prv])), if_neg h]

theorem owed_recv (d c : Dev nD) (k : Fin 8) : O₀ d (kcell (c, rIx k)) () = if d = (peer k).symm c then amt k else 0 := by
  unfold O₀ O₁
  rw [Pi.add_apply, Finsupp.add_apply, Pi.add_apply, Finsupp.add_apply, tallyAt_apply, tallyAt_apply, Ow_recv d c k 8 (le_refl 8),
    if_neg (c := kcell (c, rIx k) = kcell (nxt d, 0) ∧ _) (fun h => rIx_ne k (congrArg Prod.snd (kcell_inj h.1))),
    if_neg (c := kcell (c, rIx k) = kcell (prv d, 0) ∧ _) (fun h => rIx_ne k (congrArg Prod.snd (kcell_inj h.1))), Nat.add_zero, Nat.add_zero]
  by_cases h : peer k d = c
  · rw [if_pos ⟨by omega, h⟩, if_pos (by rw [← h, Equiv.symm_apply_apply])]
  · rw [if_neg (fun h' => h h'.2), if_neg (fun h' => h (by rw [h', Equiv.apply_symm_apply]))]

theorem launch_bar (c : Dev nD) :
    tallyOn (kcell (c, 0)) (launchCredit (Pipeline.owing O₀) 0 (kcell (c, 0))) = (tallyAt (kcell (c, 0)) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (k : Fin 8) :
    tallyOn (kcell (c, rIx k)) (launchCredit (Pipeline.owing O₀) 0 (kcell (c, rIx k))) = (tallyAt (kcell (c, rIx k)) () (amt k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ ((peer k).symm c) fun _ => amt k, if_pos (Finset.mem_univ _)]

omit [FloatOps F] in
theorem drop_mid (P Q R : sProp 𝕄) : iprop(P ∗ Q ∗ R) ⊢ iprop(P ∗ R) := by
  iintro ⟨HP, -, HR⟩
  isplitl [HP] <;> iassumption

omit [FloatOps F] in
theorem creds (c : Dev nD) :
    (Pipeline.launchCred O₀ c : sProp 𝕄) ⊢ iprop(cred (tallyAt (kcell (c, 0)) () 2) ∗ bigSep Finset.univ fun k : Fin 8 => cred (tallyAt (kcell (c, rIx k)) () (amt k))) := by
  unfold Pipeline.launchCred
  have hb : (cred (tallyAt (kcell (c, 0)) () 2) : sProp 𝕄) = cred (tallyOn (kcell (c, 0)) (launchCredit (Pipeline.owing O₀) 0 (kcell (c, 0)))) := by rw [launch_bar]
  have hr : (fun k : Fin 8 => (cred (tallyAt (kcell (c, rIx k)) () (amt k)) : sProp 𝕄))
      = fun k => cred (tallyOn (kcell (c, rIx k)) (launchCredit (Pipeline.owing O₀) 0 (kcell (c, rIx k)))) := by funext k; rw [launch_recv]
  rw [hb, hr]
  refine (bigSep_subset (Finset.subset_univ (Finset.univ.map ⟨csem, fun _ _ => csem_inj⟩))).trans ?_
  rw [bigSep_map, cells_split]
  exact drop_mid _ _ _

/-! ## The sides of the pipeline's theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' payToks
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ raw
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ shuts raw
  iintro ⟨⟨%f, Hr⟩, Hz⟩
  ihave Hz := (Entails.of_eq ((cells_split (F := F) (fun k => shut c k)).symm.trans (sems_eq c))) $$ Hz
  icases Hz with ⟨HB, HS⟩
  isplitl [HB]; · iexact HB
  isplitl [HS]; · iexact HS
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- What device `c`'s array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every weakly fair execution of the program on the four devices
    ends, each device's result at the computed contents, its operands unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof

end
-- ==== Proof.Frames.lean ====
/- The frames: every run ends, with the arguments as they were and every counter at zero. The two
   kernels have one text, so the frame of the one on words is the run of the other, read at words. -/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.RingProof

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- In a final state each of the five argument arrays is what it was at the start. -/
theorem kept (c : Dev nD) (r : PUnit × MemSt nD τ sig (Elt F)) (h : QC m ρ r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans ((dats m ρ 0 c).arrAt_in (0 : Fin 6) rfl _),
   (h c 1).trans ((dats m ρ 0 c).arrAt_in (1 : Fin 6) rfl _),
   (h c 2).trans ((dats m ρ 0 c).arrAt_in (2 : Fin 6) rfl _),
   (h c 3).trans ((dats m ρ 0 c).arrAt_in (3 : Fin 6) rfl _),
   (h c 4).trans ((dats m ρ 0 c).arrAt_in (4 : Fin 6) rfl _)⟩

/-- The run with its values left out: the arguments as they were, every counter at zero. -/
theorem run_kept : θ_run defs (onTc (τ := τ) (main (F := F))) (s₀ m ρ) (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => kept m ρ c r h.1, h.2⟩) (run_main m ρ)

end Cert.RingProof

namespace Cert.Proof

open Idealize.ShloMosaic Idealize.ShloMosaic.TcCoe Idealize.SL.Sem Cert.RingProof

section
variable {F : FTy → Type} [FloatOps F]
attribute [local instance] Cert.Kernel.Gen.facts Cert.KernelIdeal.Gen.facts

/-- The two programs' bodies are one text. -/
theorem body_same : @Cert.Kernel.cc0_body F _ Cert.Kernel.Gen.facts
    = @Cert.KernelIdeal.cc0_body F _ Cert.KernelIdeal.Gen.facts := rfl

theorem calls_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

theorem defs_same : Cert.Kernel.defs (F := F) = Cert.KernelIdeal.defs (F := F) :=
  congrArg (Pipeline.defs _) calls_same

end

theorem frame_kernel : Cert.quiescent_Kernel (hKernel := Cert.Kernel.Gen.facts) := by
  intro m ρ _
  rw [defs_same]
  exact run_kept (F := Bits) m ρ

theorem frame_ideal : Cert.quiescent_KernelIdeal (hKernelIdeal := Cert.KernelIdeal.Gen.facts) :=
  fun m ρ _ => run_kept (F := Ideal) m ρ

theorem frame_ideal_finite : Cert.quiescent_KernelIdeal_pre_finite_KernelIdeal
    (hKernelIdeal := Cert.KernelIdeal.Gen.facts)
    (hPre_finite_KernelIdeal := Cert.Pre_finite_KernelIdeal.Gen.facts) :=
  fun m ρ _ => frame_ideal m ρ trivial

theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite_ReferenceIdeal
    (hReferenceIdeal := Cert.ReferenceIdeal.Gen.facts)
    (hPre_finite_ReferenceIdeal := Cert.Pre_finite_ReferenceIdeal.Gen.facts) :=
  fun m ρ _ => frame_reference m ρ trivial

end Cert.Proof

end
-- ==== Proof.RefText.lean ====
/-
# `RefText`: the reference's result, one stage at a time

The reference's result is one long term of host operations. Here it is cut into the stages a reader of the program knows:
the queries, the mask, the scores, their maximum, the weights, the weighted values, the output product.
-/
module

public import proofs.«01_k».proof.Proof.Gen.ReferenceIdeal.Run
public import Idealize.ShloMosaic.Lib.Routing.Words

@[expose] public section

noncomputable section

namespace Cert.RefValue

open Cert.ReferenceIdeal Cert.ReferenceIdeal.Gen
open Idealize.ShloMosaic Idealize.ShloMosaic.TcCoe Idealize.SL.Sem

variable {F : FTy → Type} [FloatOps F]

/-- The block of a query row: its position divided by 64. -/
def rowBlk : IVec S256 32 := Routing.pyDiv bcast_S_S256 (iotaInDim S256 32 0) (id (constantI S_ 32 64#32))
/-- The block of a key: its position divided by 64. -/
def keyBlk : IVec S16384 32 := Routing.pyDiv bcast_S_S16384 (iotaInDim S16384 32 0) (id (constantI S_ 32 64#32))
/-- The query blocks as a column, the key blocks as a row, -/
def rowCol : IVec S256x1 32 := broadcastInDim S256x1 ![0] bcast_S256_S256x1_0 rowBlk
def keyRow : IVec S1x16384 32 := broadcastInDim S1x16384 ![1] bcast_S16384_S1x16384_1 keyBlk
/-- and both modulo four. -/
def rowMod : IVec S256x1 32 := Routing.pyRem bcast_S_S256x1 rowCol (id (constantI S_ 32 4#32))
def keyMod : IVec S1x16384 32 := Routing.pyRem bcast_S_S1x16384 keyRow (id (constantI S_ 32 4#32))
/-- The mask: a row attends a key when their blocks are equal, or equal modulo four. -/
def mask : IVec S256x16384 1 :=
  ori (cmpi .eq (broadcastInDim S256x16384 ![0, 1] bcast_S256x1_S256x16384_0_1 rowCol)
        (broadcastInDim S256x16384 ![0, 1] bcast_S1x16384_S256x16384_0_1 keyRow))
    (cmpi .eq (broadcastInDim S256x16384 ![0, 1] bcast_S1x16384_S256x16384_0_1 keyMod)
        (broadcastInDim S256x16384 ![0, 1] bcast_S256x1_S256x16384_0_1 rowMod))

/-- The queries, by heads. -/
def queries (x : FVec F S1x256x1024 .f32) (wq : FVec F S1024x1024 .f32) : FVec F S1x256x8x128 .f32 :=
  shapeCast S1x256x8x128 (Host.dotGeneral dot_S1x256x1024_S1024x1024_S1x256x1024_2_0_01_1_n_n none x wq) shapeCasts_S1x256x1024_S1x256x8x128
/-- The keys, or the values, in one row of 16384. -/
def flat (k : FVec F S1x64x4x64x8x128 .f32) : FVec F S1x16384x8x128 .f32 :=
  shapeCast S1x16384x8x128 k shapeCasts_S1x64x4x64x8x128_S1x16384x8x128
/-- The scaled scores. -/
def scores (q : FVec F S1x256x8x128 .f32) (k : FVec F S1x16384x8x128 .f32) : FVec F S1x8x256x16384 .f32 :=
  mulf (Host.dotGeneral dot_S1x256x8x128_S1x16384x8x128_S1x8x256x16384_3_3_1_1_02_02 none q k)
    (broadcastInDim S1x8x256x16384 ![] bcast_S_S1x8x256x16384 (constant S_ .f32 0x3DB504F3#32))
/-- The scores with those a mask leaves out at minus infinity. -/
def maskedOf (k : IVec S256x16384 1) (s : FVec F S1x8x256x16384 .f32) : FVec F S1x8x256x16384 .f32 :=
  select (broadcastInDim S1x8x256x16384 ![0, 1, 2, 3] bcast_S1x1x256x16384_S1x8x256x16384_0_1_2_3
      (broadcastInDim S1x1x256x16384 ![2, 3] bcast_S256x16384_S1x1x256x16384_2_3 k)) s
    (broadcastInDim S1x8x256x16384 ![] bcast_S_S1x8x256x16384 (id (constant S_ .f32 0xFF800000#32)))
def masked (s : FVec F S1x8x256x16384 .f32) : FVec F S1x8x256x16384 .f32 := maskedOf mask s
/-- Each row's largest entry. -/
def topOf (s : FVec F S1x8x256x16384 .f32) : FVec F S1x8x256 .f32 :=
  Host.reduce FloatOps.maximumf s (constant S_ .f32 0xFF800000#32) reducesTo_S1x8x256x16384_S1x8x256_d3 h_S_
def top (s : FVec F S1x8x256x16384 .f32) : FVec F S1x8x256 .f32 := topOf (masked s)
/-- The exponentials of the entries less their row's number. -/
def expoOf (s : FVec F S1x8x256x16384 .f32) (u : FVec F S1x8x256 .f32) : FVec F S1x8x256x16384 .f32 :=
  Host.exp (subf s (broadcastInDim S1x8x256x16384 ![0, 1, 2, 3] bcast_S1x8x256x1_S1x8x256x16384_0_1_2_3
    (broadcastInDim S1x8x256x1 ![0, 1, 2] bcast_S1x8x256_S1x8x256x1_0_1_2 u)))
def expo (s : FVec F S1x8x256x16384 .f32) : FVec F S1x8x256x16384 .f32 := expoOf (masked s) (top s)
/-- Whether a row of a mask holds any key. -/
def keepOf (k : IVec S256x16384 1) : IVec S256 1 := Host.reduce IntOp.ori k (constantI S_ 1 0#1) reducesTo_S256x16384_S256_d1 h_S_
def keep : IVec S256 1 := keepOf mask
/-- The sum of each row. -/
def sumOf (e : FVec F S1x8x256x16384 .f32) : FVec F S1x8x256 .f32 :=
  Host.reduceAdd e (constant S_ .f32 0x00000000#32) reducesTo_S1x8x256x16384_S1x8x256_d3 h_S_
/-- A row's number, or one for a row that attends no key. -/
def denomOf (k : IVec S256 1) (u : FVec F S1x8x256 .f32) : FVec F S1x8x256x1 .f32 :=
  select (broadcastInDim S1x8x256x1 ![0, 1, 2, 3] bcast_S1x1x256x1_S1x8x256x1_0_1_2_3 (broadcastInDim S1x1x256x1 ![2] bcast_S256_S1x1x256x1_2 k))
    (broadcastInDim S1x8x256x1 ![0, 1, 2] bcast_S1x8x256_S1x8x256x1_0_1_2 u)
    (broadcastInDim S1x8x256x1 ![] bcast_S_S1x8x256x1 (id (constant S_ .f32 0x3F800000#32)))
def denom (s : FVec F S1x8x256x16384 .f32) : FVec F S1x8x256x1 .f32 := denomOf keep (sumOf (expo s))
/-- The entries divided by their row's number, or zero in a row that attends no key. -/
def weightsOf (k : IVec S256 1) (e : FVec F S1x8x256x16384 .f32) (u : FVec F S1x8x256x1 .f32) : FVec F S1x8x256x16384 .f32 :=
  select (broadcastInDim S1x8x256x16384 ![0, 1, 2, 3] bcast_S1x1x256x1_S1x8x256x16384_0_1_2_3 (broadcastInDim S1x1x256x1 ![2] bcast_S256_S1x1x256x1_2 k))
    (Host.divf e (broadcastInDim S1x8x256x16384 ![0, 1, 2, 3] bcast_S1x8x256x1_S1x8x256x16384_0_1_2_3 u))
    (broadcastInDim S1x8x256x16384 ![] bcast_S_S1x8x256x16384 (id (constant S_ .f32 0x00000000#32)))
/-- The weights. -/
def weights (s : FVec F S1x8x256x16384 .f32) : FVec F S1x8x256x16384 .f32 := weightsOf keep (expo s) (denom s)
/-- The weighted values, the heads side by side. -/
def context (v : FVec F S1x16384x8x128 .f32) (w : FVec F S1x8x256x16384 .f32) : FVec F S1x256x1024 .f32 :=
  shapeCast S1x256x1024 (transpose S1x256x8x128 [0, 3, 1, 2]
    (Host.dotGeneral dot_S1x16384x8x128_S1x8x256x16384_S1x8x128x256_1_3_3_2_02_01 none v w : FVec F S1x8x128x256 .f32)
    transposes_S1x8x128x256_S1x256x8x128_0_3_1_2) shapeCasts_S1x256x8x128_S1x256x1024
/-- The output product. -/
def output (c : FVec F S1x256x1024 .f32) (wo : FVec F S1024x1024 .f32) : FVec F S1x256x1024 .f32 :=
  Host.dotGeneral dot_S1x256x1024_S1024x1024_S1x256x1024_2_0_01_1_n_n none c wo

/-- The stages composed. -/
def result (x : FVec F S1x256x1024 .f32) (wq : FVec F S1024x1024 .f32) (k v : FVec F S1x64x4x64x8x128 .f32)
    (wo : FVec F S1024x1024 .f32) : FVec F S1x256x1024 .f32 :=
  output (context (flat v) (weights (scores (queries x wq) (flat k)))) wo

/-- The reference's result is the stages composed. -/
theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.RefValue
end
-- ==== Proof.Softmax.lean ====
/-
# `Softmax`: the arithmetic of the claim

The reference subtracts a row's largest score before the exponential and divides each weight by their sum; the kernel
exponentiates the scores as they are, and divides once, after the weighted values are added. Where the scores are finite
the two agree on the extended reals, whatever the values are.
-/
module

public import Idealize.ShloMosaic.Lib.Pointwise

@[expose] public section

noncomputable section

namespace Cert.Softmax

open Idealize.ShloMosaic

/-- A factor that is neither negative nor infinite may be taken out of a sum. -/
theorem sum_mul_const {ι : Type} (s : Finset ι) (f : ι → EReal) (a : EReal) (h0 : 0 ≤ a) (ht : a ≠ ⊤) :
    (∑ i ∈ s, f i * a) = (∑ i ∈ s, f i) * a := by
  classical
  induction s using Finset.induction_on with
  | empty => simp
  | insert i s hi ih => rw [Finset.sum_insert hi, Finset.sum_insert hi, ih, EReal.right_distrib_of_nonneg_of_ne_top h0 ht]

/-- A sum of reals is the same sum on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The weighted values of the rows of a group `g`: subtracting a finite `M` first and dividing each weight is dividing the
    sum once. -/
theorem attend {T : Type} [Fintype T] (S : T → ℝ) (g : T → Prop) [DecidablePred g] (V : T → EReal) (M : ℝ) (hg : ∃ t, g t) :
    (∑ t, V t * Ideal.div (if g t then Ideal.exp ((S t : EReal) - M) else 0) (∑ u, if g u then Ideal.exp ((S u : EReal) - M) else 0))
      = Ideal.div (∑ t, if g t then Ideal.exp (S t : EReal) * V t else 0) (∑ u, if g u then Ideal.exp (S u : EReal) else 0) := by
  classical
  -- both families of exponentials are real, and so are their sums, which are positive
  have hs : ∀ t, (if g t then Ideal.exp ((S t : EReal) - M) else 0) = ((if g t then Real.exp (S t - M) else 0 : ℝ) : EReal) := by
    intro t
    rw [← EReal.coe_sub, Ideal.exp_coe]
    split <;> simp
  have hk : ∀ t, (if g t then Ideal.exp (S t : EReal) else 0) = ((if g t then Real.exp (S t) else 0 : ℝ) : EReal) := by
    intro t
    rw [Ideal.exp_coe]
    split <;> simp
  have hn : ∀ t, (if g t then Ideal.exp (S t : EReal) * V t else 0) = V t * ((if g t then Real.exp (S t) else 0 : ℝ) : EReal) := by
    intro t
    rw [Ideal.exp_coe]
    split
    · exact mul_comm _ _
    · simp
  have hL : 0 < ∑ u, (if g u then Real.exp (S u) else 0) := by
    obtain ⟨t, ht⟩ := hg
    refine Finset.sum_pos' (fun u _ => ?_) ⟨t, Finset.mem_univ _, ?_⟩
    · split
      · exact (Real.exp_pos _).le
      · exact le_refl _
    · rw [if_pos ht]; exact Real.exp_pos _
  have hW : (∑ u, (if g u then Real.exp (S u - M) else 0)) = Real.exp (-M) * ∑ u, (if g u then Real.exp (S u) else 0) := by
    rw [Finset.mul_sum]
    refine Finset.sum_congr rfl fun u _ => ?_
    split
    · rw [← Real.exp_add]; congr 1; ring
    · simp
  simp only [hs, hk, hn, ← coe_sum]
  rw [hW]
  generalize (∑ u, (if g u then Real.exp (S u) else 0)) = L at hL
  have hM : 0 < Real.exp (-M) := Real.exp_pos _
  rw [Ideal.div_coe hL.ne', ← sum_mul_const _ _ _ (by exact_mod_cast (one_div_pos.mpr hL).le) (EReal.coe_ne_top _)]
  refine Finset.sum_congr rfl fun t _ => ?_
  rw [Ideal.div_coe (mul_pos hM hL).ne', mul_assoc, ← EReal.coe_mul, ← EReal.coe_mul]
  congr 2
  split
  · rw [show S t - M = -M + S t by ring, Real.exp_add]
    field_simp
  · simp

/-- The largest of a family that is nowhere positive infinity and somewhere real is real. -/
theorem fold_max_real {T : Type} [Fintype T] (f : T → EReal) (ht : ∀ t, f t ≠ ⊤) (hb : ∃ t, f t ≠ ⊥) :
    ∃ M : ℝ, Finset.univ.fold max ⊥ f = (M : EReal) := by
  have h1 : Finset.univ.fold max ⊥ f < ⊤ := by
    rw [Finset.fold_max_lt]
    exact ⟨bot_lt_top, fun t _ => lt_top_iff_ne_top.mpr (ht t)⟩
  have h2 : ⊥ < Finset.univ.fold max ⊥ f := by
    obtain ⟨t, h⟩ := hb
    rw [Finset.lt_fold_max]
    exact .inr ⟨t, Finset.mem_univ _, bot_lt_iff_ne_bot.mpr h⟩
  exact ⟨(Finset.univ.fold max ⊥ f).toReal, (EReal.coe_toReal h1.ne h2.ne').symm⟩

end Cert.Softmax
end
-- ==== Proof.RefValue.lean ====
/-
# `RefValue`: the reference's stages, entry by entry
-/
module

public import proofs.«01_k».proof.Proof.RefText
public import Idealize.ShloMosaic.Lib.Pointwise
public import Idealize.ShloMosaic.Lib.Routing.OpsOrder
public import Idealize.ShloMosaic.Lib.WordCmp
public import Idealize.ShloMosaic.Lib.WordArith
public import proofs.«01_k».proof.Proof.Softmax

@[expose] public section

noncomputable section

namespace Cert.RefValue

open Cert.ReferenceIdeal Cert.ReferenceIdeal.Gen
open Idealize.ShloMosaic Idealize.ShloMosaic.TcCoe Idealize.SL.Sem

theorem rowBlk_apply (i : Fin 256) : rowBlk (ix1 i) = BitVec.ofNat 32 (i.val / 64) :=
  Routing.pyDiv_ap _ _ _ (ix1 i) (a := i.val) (b := 64) rfl rfl (by omega) (by omega) (by omega)
theorem keyBlk_apply (t : Fin 16384) : keyBlk (ix1 t) = BitVec.ofNat 32 (t.val / 64) :=
  Routing.pyDiv_ap _ _ _ (ix1 t) (a := t.val) (b := 64) rfl rfl (by omega) (by omega) (by omega)
theorem rowCol_apply (i : Fin 256) : rowCol (ix2 i 0) = BitVec.ofNat 32 (i.val / 64) := by
  pointwise [rowCol, rowBlk_apply]
theorem keyRow_apply (t : Fin 16384) : keyRow (ix2 0 t) = BitVec.ofNat 32 (t.val / 64) := by
  pointwise [keyRow, keyBlk_apply]
theorem rowMod_apply (i : Fin 256) : rowMod (ix2 i 0) = BitVec.ofNat 32 (i.val / 64 % 4) :=
  Routing.pyRem_ap _ _ _ _ (rowCol_apply i) rfl (by omega) (by omega) (by omega)
theorem keyMod_apply (t : Fin 16384) : keyMod (ix2 0 t) = BitVec.ofNat 32 (t.val / 64 % 4) :=
  Routing.pyRem_ap _ _ _ _ (keyRow_apply t) rfl (by omega) (by omega) (by omega)

/-- A row attends the keys whose block modulo four is its own block. -/
theorem mask_apply (i : Fin 256) (t : Fin 16384) : mask (ix2 i t) = if t.val / 64 % 4 = i.val / 64 then 1#1 else 0#1 := by
  pointwise [mask, rowCol_apply, keyRow_apply, rowMod_apply, keyMod_apply]
  rw [WordCmp.cmpi_eq_ofNat (w := 32) (by omega) (by omega), WordCmp.cmpi_eq_ofNat (w := 32) (by omega) (by omega), WordArith.ori_ofBool]
  by_cases e : t.val / 64 % 4 = i.val / 64
  · rw [if_pos e, decide_eq_true (show t.val / 64 % 4 = i.val / 64 % 4 by omega), Bool.or_true]; rfl
  · rw [if_neg e, decide_eq_false (show ¬ t.val / 64 % 4 = i.val / 64 % 4 by omega), decide_eq_false (show ¬ i.val / 64 = t.val / 64 by omega)]; rfl

theorem queries_apply (x : FVec Ideal S1x256x1024 .f32) (wq : FVec Ideal S1024x1024 .f32) (i : Fin 256) (h : Fin 8) (d : Fin 128) :
    queries x wq (ix4 0 i h d) = ∑ k : Fin 1024, x (ix3 0 i k) * wq (ix2 k ⟨128 * h + d, by omega⟩) := by
  pointwise [queries]
  simp only [mul_comm h.val 128]

theorem scores_apply (q : FVec Ideal S1x256x8x128 .f32) (k : FVec Ideal S1x16384x8x128 .f32) (h : Fin 8) (i : Fin 256) (t : Fin 16384) :
    scores q k (ix4 0 h i t) = (∑ d : Fin 128, q (ix4 0 i h d) * k (ix4 0 t h d)) * Ideal.ofBits .f32 0x3DB504F3#32 := by
  pointwise [scores]
theorem maskedOf_apply (k : IVec S256x16384 1) (s : FVec Ideal S1x8x256x16384 .f32) (h : Fin 8) (i : Fin 256) (t : Fin 16384) :
    maskedOf k s (ix4 0 h i t) = Scalar.select (k (ix2 i t)) (s (ix4 0 h i t)) (Ideal.ofBits .f32 0xFF800000#32) := by
  pointwise [maskedOf]
  rfl
theorem topOf_apply (s : FVec Ideal S1x8x256x16384 .f32) (h : Fin 8) (i : Fin 256)  :
    topOf s (ix3 0 h i) = Finset.univ.fold max (Ideal.ofBits .f32 0xFF800000#32) fun t : Fin 16384 => s (ix4 0 h i t) := by
  pointwise [topOf]
theorem keepOf_apply (k : IVec S256x16384 1) (i : Fin 256) :
    keepOf k (ix1 i) = Finset.univ.fold IntOp.ori 0#1 fun t : Fin 16384 => k (ix2 i t) := by
  pointwise [keepOf]
theorem expoOf_apply (s : FVec Ideal S1x8x256x16384 .f32) (u : FVec Ideal S1x8x256 .f32) (h : Fin 8) (i : Fin 256) (t : Fin 16384) :
    expoOf s u (ix4 0 h i t) = Ideal.exp (s (ix4 0 h i t) - u (ix3 0 h i)) := by
  pointwise [expoOf]
theorem sumOf_apply (e : FVec Ideal S1x8x256x16384 .f32) (h : Fin 8) (i : Fin 256)  :
    sumOf e (ix3 0 h i) = ∑ t : Fin 16384, e (ix4 0 h i t) := by
  pointwise [sumOf]
theorem denomOf_apply (k : IVec S256 1) (u : FVec Ideal S1x8x256 .f32) (h : Fin 8) (i : Fin 256) (hk : k (ix1 i) = 1#1) :
    denomOf k u (ix4 0 h i 0) = u (ix3 0 h i) := by
  pointwise [denomOf, hk]
theorem weightsOf_apply (k : IVec S256 1) (e : FVec Ideal S1x8x256x16384 .f32) (u : FVec Ideal S1x8x256x1 .f32) (h : Fin 8) (i : Fin 256)
    (t : Fin 16384) (hk : k (ix1 i) = 1#1) :
    weightsOf k e u (ix4 0 h i t) = Ideal.div (e (ix4 0 h i t)) (u (ix4 0 h i 0)) := by
  pointwise [weightsOf, hk]
theorem context_apply (v : FVec Ideal S1x16384x8x128 .f32) (w : FVec Ideal S1x8x256x16384 .f32) (i : Fin 256) (n : Fin 1024) :
    context v w (ix3 0 i n) = ∑ t : Fin 16384, v (ix4 0 t ⟨n / 128, by omega⟩ ⟨n % 128, by omega⟩) * w (ix4 0 ⟨n / 128, by omega⟩ i t) := by
  pointwise [context]
theorem output_apply (c : FVec Ideal S1x256x1024 .f32) (wo : FVec Ideal S1024x1024 .f32) (i : Fin 256) (n : Fin 1024) :
    output c wo (ix3 0 i n) = ∑ k : Fin 1024, c (ix3 0 i k) * wo (ix2 k n) := by
  pointwise [output]
theorem flat_apply (k : FVec Ideal S1x64x4x64x8x128 .f32) (t : Fin 16384) (h : Fin 8) (d : Fin 128) :
    flat k (ix4 0 t h d) = k (ix6 0 ⟨t / 256, by omega⟩ ⟨t / 64 % 4, by omega⟩ ⟨t % 64, by omega⟩ h d) := by
  pointwise [flat]

theorem neg_inf : Ideal.ofBits .f32 0xFF800000#32 = ⊥ := by
  simp [Ideal.ofBits, Ideal.ieee]

/-- Every row attends some key. -/
theorem keep_apply (i : Fin 256) : keep (ix1 i) = 1#1 := by
  unfold keep
  rw [keepOf_apply, Routing.fold_ori]
  refine ⟨⟨i.val / 64 * 64, by omega⟩, Finset.mem_univ _, ?_⟩
  rw [mask_apply, if_pos (by show i.val / 64 * 64 / 64 % 4 = i.val / 64; omega)]

/-- With finite scores, an entry of the result is the product with the output weights of the attended values' quotients. -/
theorem result_apply (x : FVec Ideal S1x256x1024 .f32) (wq : FVec Ideal S1024x1024 .f32) (k v : FVec Ideal S1x64x4x64x8x128 .f32)
    (wo : FVec Ideal S1024x1024 .f32) (S : Fin 8 → Fin 256 → Fin 16384 → ℝ)
    (hS : ∀ h i t, scores (queries x wq) (flat k) (ix4 0 h i t) = (S h i t : EReal)) (i : Fin 256) (n : Fin 1024) :
    result x wq k v wo (ix3 0 i n) = ∑ e : Fin 1024,
      Ideal.div (∑ t : Fin 16384, if t.val / 64 % 4 = i.val / 64 then
            Ideal.exp (S ⟨e / 128, by omega⟩ i t : EReal) * flat v (ix4 0 t ⟨e / 128, by omega⟩ ⟨e % 128, by omega⟩) else 0)
          (∑ t : Fin 16384, if t.val / 64 % 4 = i.val / 64 then Ideal.exp (S ⟨e / 128, by omega⟩ i t : EReal) else 0)
        * wo (ix2 e n) := by
  have hm : ∀ h t, masked (scores (queries x wq) (flat k)) (ix4 0 h i t) = if t.val / 64 % 4 = i.val / 64 then (S h i t : EReal) else ⊥ := by
    intro h t
    unfold masked
    rw [maskedOf_apply, mask_apply, hS, neg_inf]
    split <;> rfl
  have hM : ∀ h, ∃ M : ℝ, top (scores (queries x wq) (flat k)) (ix3 0 h i) = (M : EReal) := by
    intro h
    unfold top
    rw [topOf_apply, neg_inf]
    refine Softmax.fold_max_real _ (fun t => ?_) ⟨⟨i.val / 64 * 64, by omega⟩, ?_⟩
    · rw [hm]; split
      · exact EReal.coe_ne_top _
      · exact bot_ne_top
    · rw [hm, if_pos (by show i.val / 64 * 64 / 64 % 4 = i.val / 64; omega)]
      exact EReal.coe_ne_bot _
  have he : ∀ h, ∃ M : ℝ, ∀ t, expo (scores (queries x wq) (flat k)) (ix4 0 h i t)
      = if t.val / 64 % 4 = i.val / 64 then Ideal.exp ((S h i t : EReal) - M) else 0 := by
    intro h
    obtain ⟨M, hM⟩ := hM h
    refine ⟨M, fun t => ?_⟩
    unfold expo
    rw [expoOf_apply, hM, hm]
    split
    · rfl
    · rw [EReal.bot_sub]; rfl
  unfold result
  rw [output_apply]
  refine Finset.sum_congr rfl fun e _ => ?_
  refine congrArg (fun z : EReal => z * wo (ix2 e n)) ?_
  obtain ⟨M, hM⟩ := he ⟨e / 128, by omega⟩
  rw [context_apply, ← Softmax.attend (S ⟨e / 128, by omega⟩ i) (fun t : Fin 16384 => t.val / 64 % 4 = i.val / 64) _ M
    ⟨⟨i.val / 64 * 64, by omega⟩, by show i.val / 64 * 64 / 64 % 4 = i.val / 64; omega⟩]
  refine Finset.sum_congr rfl fun t _ => ?_
  unfold weights denom
  rw [weightsOf_apply _ _ _ _ _ _ (keep_apply i), denomOf_apply _ _ _ _ (keep_apply i), sumOf_apply, hM]
  simp only [hM]

end Cert.RefValue
end
-- ==== Proof.KernelValue.lean ====
/-
# `KernelValue`: the kernel's result, entry by entry

Over the extended reals. One block of the attention is a sum over the 1024 keys a device holds for a query group; the four
devices' blocks are added, and each head's outputs divided by its sums.
-/
module

public import proofs.«01_k».proof.Proof.Stages
public import Idealize.ShloMosaic.Lib.Pointwise

@[expose] public section

noncomputable section

namespace Cert.RingProof

open Cert.KernelIdeal Cert.KernelIdeal.Gen
open Idealize.ShloMosaic Idealize.ShloMosaic.TcCoe Idealize.SL.Sem

/-- The exponential of the score of query row `i` and the `p`-th key of the row's group, for head `h`. -/
def ex (q : FVec Ideal S256x1024 .f32) (K : FVec Ideal S1x16x4x64x8x128 .f32) (i : Fin 256) (h : Fin 8) (p : Fin 1024) : EReal :=
  Ideal.exp (∑ e : Fin 128, q (ix2 i ⟨128 * h + e, by omega⟩) * K (ix6 0 ⟨p / 64, by omega⟩ ⟨i / 64, by omega⟩ ⟨p % 64, by omega⟩ h e))
/-- A device's share of the unnormalised output, -/
def num (q : FVec Ideal S256x1024 .f32) (K V : FVec Ideal S1x16x4x64x8x128 .f32) (i : Fin 256) (h : Fin 8) (d : Fin 128) : EReal :=
  ∑ p : Fin 1024, ex q K i h p * V (ix6 0 ⟨p / 64, by omega⟩ ⟨i / 64, by omega⟩ ⟨p % 64, by omega⟩ h d)
/-- and of the sum of exponentials. -/
def den (q : FVec Ideal S256x1024 .f32) (K : FVec Ideal S1x16x4x64x8x128 .f32) (i : Fin 256) (h : Fin 8) : EReal := ∑ p : Fin 1024, ex q K i h p

theorem kvCut_apply (X : FVec Ideal S1x16x4x64x8x128 .f32) (j : Fin 4) (h : Fin 8) (a : Fin 16) (s : Fin 64) (d : Fin 128) :
    kvCut X j h (ix6 0 a 0 s 0 d) = X (ix6 0 a j s h d) := by
  unfold kvCut
  refine congrArg X (funext fun x => Fin.ext ?_)
  match x with
  | ⟨0, _⟩ => rfl
  | ⟨1, _⟩ => show 0 + 1 * a.val = a.val; omega
  | ⟨2, _⟩ => rfl
  | ⟨3, _⟩ => show 0 + 1 * s.val = s.val; omega
  | ⟨4, _⟩ => rfl
  | ⟨5, _⟩ => show 0 + 1 * d.val = d.val; omega

theorem pay3_apply (v : Vec Ideal S1x16x1x64x1x128 .f32) (p : Fin 1024) (d : Fin 128) :
    k0_pay3 (F := Ideal) v (ix2 p d) = v (ix6 0 ⟨p / 64, by omega⟩ 0 ⟨p % 64, by omega⟩ 0 d) := by
  pointwise [k0_pay3]

theorem pay4_apply (q : FVec Ideal S64x128 .f32) (k : FVec Ideal S1024x128 .f32) (r : Fin 64) (p : Fin 1024) :
    k0_pay4 (F := Ideal) q k (ix2 r p) = Ideal.exp (∑ e : Fin 128, q (ix2 r e) * k (ix2 p e)) := by
  pointwise [k0_pay4]

theorem qCut_apply (q : FVec Ideal S256x1024 .f32) (j : Fin 4) (h : Fin 8) (r : Fin 64) (d : Fin 128) :
    qCut q j h (ix2 r d) = q (ix2 ⟨64 * j + r, by omega⟩ ⟨128 * h + d, by omega⟩) := by
  pointwise [qCut]

theorem pay5_apply (q : FVec Ideal S64x128 .f32) (k : FVec Ideal S1024x128 .f32) (v : Vec Ideal S1x16x1x64x1x128 .f32) (r : Fin 64) (d : Fin 128) :
    k0_pay5 (F := Ideal) q k v (ix3 0 r d) = ∑ p : Fin 1024, k0_pay4 q k (ix2 r p) * v (ix6 0 ⟨p / 64, by omega⟩ 0 ⟨p % 64, by omega⟩ 0 d) := by
  pointwise [k0_pay5]

theorem pay6_apply (q : FVec Ideal S64x128 .f32) (k : FVec Ideal S1024x128 .f32) (r : Fin 64) :
    k0_pay6 (F := Ideal) q k (ix3 0 r 0) = ∑ p : Fin 1024, k0_pay4 q k (ix2 r p) := by
  pointwise [k0_pay6]

theorem pay4_cut (q : FVec Ideal S256x1024 .f32) (K : FVec Ideal S1x16x4x64x8x128 .f32) (i : Fin 256) (h : Fin 8) (p : Fin 1024) :
    k0_pay4 (qCut q ⟨i / 64, by omega⟩ h) (k0_pay3 (kvCut K ⟨i / 64, by omega⟩ h)) (ix2 ⟨i % 64, by omega⟩ p) = ex q K i h p := by
  rw [pay4_apply]
  unfold ex
  refine congrArg Ideal.exp (Finset.sum_congr rfl fun e _ => ?_)
  rw [qCut_apply, pay3_apply, kvCut_apply]
  congr 3
  exact Fin.ext (by show 64 * (i.val / 64) + i.val % 64 = i.val; omega)

theorem oBlk_apply (q : FVec Ideal S256x1024 .f32) (K V : FVec Ideal S1x16x4x64x8x128 .f32) (i : Fin 256) (h : Fin 8) (d : Fin 128) :
    oBlk q K V ⟨i / 64, by omega⟩ h (ix3 0 ⟨i % 64, by omega⟩ d) = num q K V i h d := by
  unfold oBlk num
  rw [pay5_apply]
  refine Finset.sum_congr rfl fun p _ => ?_
  rw [pay4_cut, kvCut_apply]

theorem lBlk_apply (q : FVec Ideal S256x1024 .f32) (K : FVec Ideal S1x16x4x64x8x128 .f32) (i : Fin 256) (h : Fin 8) :
    lBlk q K ⟨i / 64, by omega⟩ h (ix3 0 ⟨i % 64, by omega⟩ 0) = den q K i h := by
  unfold lBlk den
  rw [pay6_apply]
  refine Finset.sum_congr rfl fun p _ => ?_
  rw [pay4_cut]

theorem ix3_eta {a b c : ℕ} (f : (⟨3, ![a, b, c]⟩ : Shape).Idx) (x : Fin a) (y : Fin b) (z : Fin c) (h0 : f 0 = x) (h1 : f 1 = y) (h2 : f 2 = z) :
    f = ix3 x y z := by
  subst h0 h1 h2
  exact eq_ix3 f

/-- An output lane of a device's own slot, -/
theorem ownAt_out (q : FVec Ideal S256x1024 .f32) (K V : FVec Ideal S1x16x4x64x8x128 .f32) (i : Fin 256) (l : Fin 1280) (h : Fin 8) (d : Fin 128)
    (b g : ℕ) (hg : g < 4) (hl : l.val = 640 * b + 128 * g + d) (hh : h.val = 4 * b + g) :
    ownAt q K V i l = num q K V i h d := by
  have hd := d.isLt
  have e1 : l.val / 640 = b := by omega
  have e2 : l.val % 640 = 128 * g + d := by omega
  have e3 : l.val % 640 / 128 = g := by omega
  unfold ownAt
  rw [if_pos (by omega), ← oBlk_apply]
  congr 1
  · exact Fin.ext (by show 4 * (l.val / 640) + l.val % 640 / 128 % 4 = h.val; omega)
  · exact ix3_eta _ _ _ _ rfl rfl (Fin.ext (by show l.val % 640 % 128 = d.val; omega))
/-- and a lane of its sums. -/
theorem ownAt_sum (q : FVec Ideal S256x1024 .f32) (K V : FVec Ideal S1x16x4x64x8x128 .f32) (i : Fin 256) (l : Fin 1280) (h : Fin 8)
    (b g : ℕ) (hg : g < 4) (hl : l.val = 640 * b + 512 + g) (hh : h.val = 4 * b + g) :
    ownAt q K V i l = den q K i h := by
  unfold ownAt
  rw [if_neg (by omega), ← lBlk_apply]
  congr 1
  · exact Fin.ext (by show 4 * (l.val / 640) + (l.val % 640 - 512) % 4 = h.val; omega)
  · exact ix3_eta _ _ _ _ rfl rfl rfl

/-! ## The end of the computation -/

theorem quot_apply (s : FVec Ideal S256x640 .f32) (i : Fin 256) (l : Fin 512) :
    quot s (ix2 i l) = Ideal.div (s (ix2 i ⟨l, by omega⟩)) (s (ix2 i ⟨512 + l / 128, by omega⟩)) := by
  have hl := l.isLt
  pointwise [quot]
  split_ifs <;>
    exact congrArg₂ (fun a b => Ideal.div (s (ix2 i a)) (s (ix2 i b))) (Fin.ext (by dsimp only <;> omega)) (Fin.ext (by dsimp only <;> omega))

theorem mix_apply (s : FVec Ideal S256x640 .f32) (w : Vec Ideal S512x1024 .f32) (i : Fin 256) (n : Fin 1024) :
    mix (F := Ideal) s w (ix2 i n) = ∑ l : Fin 512, quot s (ix2 i l) * w (ix2 l n) := by
  pointwise [mix]

theorem total_apply (v0 v1 v2 v3 : Vec Ideal S1x256x640 .bf16) (i : Fin 256) (l : Fin 640) :
    total (F := Ideal) v0 v1 v2 v3 (ix2 i l) = v0 (ix3 0 i l) + v1 (ix3 0 i l) + v2 (ix3 0 i l) + v3 (ix3 0 i l) := by
  pointwise [total, wide]

theorem pay134_apply (t : FVec Ideal S256x1024 .f32) (v0 v1 v2 v3 : Vec Ideal S1x256x640 .bf16) (w : Vec Ideal S512x1024 .f32) (i : Fin 256) (n : Fin 1024) :
    k0_pay134 (F := Ideal) t (k0_pay133 v0 v1 v2) v3 w (ix3 0 i n) = t (ix2 i n) + mix (total v0 v1 v2 v3) w (ix2 i n) := by
  rw [pay134_eq]
  generalize mix (total v0 v1 v2 v3) w = u
  pointwise

/-- A device and the three its slots come from are the four devices. -/
theorem sum_origins (f : Dev nD → EReal) (c : Dev nD) : f c + f (prv c) + f (nxt c) + f (prv (prv c)) = ∑ o : Fin 4, f o := by
  rw [Fin.sum_univ_four]
  fin_cases c
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

variable (m : (ℓ : Loc nD τ sig) → Buf (Elt Ideal) ℓ) (ρ : Dev nD → PrngReg)

theorem wo_top (c : Dev nD) (l : Fin 512) (n : Fin 1024) : woTop m ρ c (ix2 l n) = woS m ρ c (ix2 ⟨l, by omega⟩ n) := by
  refine congrArg (woS m ρ c) (funext fun x => Fin.ext ?_)
  match x with
  | ⟨0, _⟩ => show 0 + 1 * l.val = l.val; omega
  | ⟨1, _⟩ => show 0 + 1 * n.val = n.val; omega
theorem wo_bot (c : Dev nD) (l : Fin 512) (n : Fin 1024) : woBot m ρ c (ix2 l n) = woS m ρ c (ix2 ⟨512 + l, by omega⟩ n) := by
  refine congrArg (woS m ρ c) (funext fun x => Fin.ext ?_)
  match x with
  | ⟨0, _⟩ => show 512 + 1 * l.val = 512 + l.val; omega
  | ⟨1, _⟩ => show 0 + 1 * n.val = n.val; omega

/-- The quotients of half `b`, from the four devices. -/
theorem quot_canon (c : Dev nD) (b : ℕ) (hb : b < 2) (i : Fin 256) (l : Fin 512) :
    quot (total (canon m ρ c b hb) (canon m ρ (prv c) b hb) (canon m ρ (nxt c) b hb) (canon m ρ (prv (prv c)) b hb)) (ix2 i l)
      = Ideal.div (∑ o : Fin 4, num (qS m ρ o) (kS m ρ o) (vS m ρ o) i ⟨4 * b + l / 128, by omega⟩ ⟨l % 128, by omega⟩)
          (∑ o : Fin 4, den (qS m ρ o) (kS m ρ o) i ⟨4 * b + l / 128, by omega⟩) := by
  rw [quot_apply, total_apply, total_apply]
  rw [sum_origins (fun o => canon m ρ o b hb (ix3 0 i ⟨l, by omega⟩)) c, sum_origins (fun o => canon m ρ o b hb (ix3 0 i ⟨512 + l / 128, by omega⟩)) c]
  congr 1
  · refine Finset.sum_congr rfl fun o _ => ?_
    exact ownAt_out _ _ _ i _ _ _ b (l.val / 128) (by omega) (by show 640 * b + l.val = 640 * b + 128 * (l.val / 128) + l.val % 128; omega) rfl
  · refine Finset.sum_congr rfl fun o _ => ?_
    exact ownAt_sum _ _ _ i _ _ b (l.val / 128) (by omega) (by show 640 * b + (512 + l.val / 128) = 640 * b + 512 + l.val / 128; omega) rfl

/-- The result of device `c`. -/
theorem outAt_apply (c : Dev nD) (i : Fin 256) (n : Fin 1024) :
    outAt m ρ c (ix3 0 i n) = ∑ e : Fin 1024,
      Ideal.div (∑ o : Fin 4, num (qS m ρ o) (kS m ρ o) (vS m ρ o) i ⟨e / 128, by omega⟩ ⟨e % 128, by omega⟩)
          (∑ o : Fin 4, den (qS m ρ o) (kS m ρ o) i ⟨e / 128, by omega⟩)
        * woS m ρ c (ix2 e n) := by
  rw [Fin.sum_univ_two_halves 512 512 rfl]
  refine (pay134_apply _ _ _ _ _ _ i n).trans ?_
  unfold topAt
  rw [pay132_eq, mix_apply, mix_apply]
  refine congrArg₂ (fun a b : EReal => a + b) (Finset.sum_congr rfl fun l _ => ?_) (Finset.sum_congr rfl fun l _ => ?_)
  · rw [wo_top]
    refine congrArg (fun z : EReal => z * woS m ρ c (ix2 ⟨l, by omega⟩ n)) ?_
    refine (quot_canon m ρ c 0 (by decide) i l).trans ?_
    have e : (⟨4 * 0 + l.val / 128, by omega⟩ : Fin 8) = ⟨l.val / 128, by omega⟩ := Fin.ext (by dsimp only; omega)
    rw [e]
  · rw [wo_bot]
    refine congrArg (fun z : EReal => z * woS m ρ c (ix2 ⟨512 + l, by omega⟩ n)) ?_
    refine (quot_canon m ρ c 1 (by decide) i l).trans ?_
    have e : (⟨4 * 1 + l.val / 128, by omega⟩ : Fin 8) = ⟨(512 + l.val) / 128, by omega⟩ := Fin.ext (by dsimp only; omega)
    have e' : (⟨l.val % 128, by omega⟩ : Fin 128) = ⟨(512 + l.val) % 128, by omega⟩ := Fin.ext (by dsimp only; omega)
    rw [e, e']

end Cert.RingProof
end
-- ==== Proof.Value.lean ====
/-
# `Value`: the kernel's result is the reference's

The kernel's four devices hold between them the 16384 keys; a query group attends, on each device, the 1024 keys whose
block modulo four is the group's number, and these are the keys the reference's mask keeps.
-/
module

public import proofs.«01_k».proof.Proof.RefValue
public import proofs.«01_k».proof.Proof.KernelValue

@[expose] public section

noncomputable section

namespace Cert.RingProof

open Idealize.ShloMosaic Idealize.ShloMosaic.TcCoe Idealize.SL.Sem
open Cert.KernelIdeal Cert.KernelIdeal.Gen

/-! ## The keys -/

/-- The position among all keys of the `p`-th key device `o` holds for group `g`. -/
def keyAt (g o : Fin 4) (p : Fin 1024) : Fin 16384 := ⟨4096 * o + 256 * (p / 64) + 64 * g + p % 64, by omega⟩

/-- A sum over the keys of a group is the sum over the devices of each one's keys of the group. -/
theorem sum_keys (g : Fin 4) (f : Fin 16384 → EReal) :
    (∑ t : Fin 16384, if t.val / 64 % 4 = g then f t else 0) = ∑ o : Fin 4, ∑ p : Fin 1024, f (keyAt g o p) := by
  rw [← Fintype.sum_prod_type' (fun o p => f (keyAt g o p))]
  symm
  refine Fintype.sum_of_injective (fun x : Fin 4 × Fin 1024 => keyAt g x.1 x.2) ?_ _ _ ?_ ?_
  · rintro ⟨o, p⟩ ⟨o', p'⟩ h
    have h' : 4096 * o.val + 256 * (p.val / 64) + 64 * g.val + p.val % 64 = 4096 * o'.val + 256 * (p'.val / 64) + 64 * g.val + p'.val % 64 :=
      congrArg Fin.val h
    have a1 := p.isLt
    have a2 := p'.isLt
    have e1 : o = o' := Fin.ext (by omega)
    subst e1
    have e2 : p = p' := Fin.ext (by omega)
    subst e2
    rfl
  · intro t ht
    refine if_neg fun h => ht ⟨(⟨t / 4096, by omega⟩, ⟨t / 256 % 16 * 64 + t % 64, by omega⟩), Fin.ext ?_⟩
    show 4096 * (t.val / 4096) + 256 * ((t.val / 256 % 16 * 64 + t.val % 64) / 64) + 64 * g.val + (t.val / 256 % 16 * 64 + t.val % 64) % 64 = t.val
    omega
  · rintro ⟨o, p⟩
    refine (if_pos ?_).symm
    show (4096 * o.val + 256 * (p.val / 64) + 64 * g.val + p.val % 64) / 64 % 4 = g.val
    omega

/-! ## The scores -/

/-- The scale is a real number. -/
theorem scale_real : ∃ r : ℝ, Ideal.ofBits .f32 0x3DB504F3#32 = (r : EReal) := by
  unfold Ideal.ofBits Ideal.ieee
  dsimp only
  rw [if_neg (by decide), if_neg (by decide)]
  exact ⟨_, rfl⟩

/-- A number whose absolute value is below infinity is real. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  refine ⟨x.toReal, (EReal.coe_toReal ?_ ?_).symm⟩
  · rintro rfl; simp [Ideal.cmp] at h
  · rintro rfl; simp [Ideal.cmp] at h

theorem pay1_apply (x : FVec Ideal S1x256x1024 .f32) (wq : FVec Ideal S1024x1024 .f32) (i : Fin 256) (n : Fin 1024) :
    k0_pay1 (F := Ideal) x wq (ix2 i n) = (∑ k : Fin 1024, x (ix3 0 i k) * wq (ix2 k n)) * Ideal.ofBits .f32 0x3DB504F3#32 := by
  pointwise [k0_pay1]

/-- With finite arguments the scores are real numbers, and the kernel's exponentials are theirs. -/
theorem scores_real (x : FVec Ideal S1x256x1024 .f32) (wq : FVec Ideal S1024x1024 .f32) (K : FVec Ideal Cert.ReferenceIdeal.S1x64x4x64x8x128 .f32)
    (hx : ∀ j, ∃ r : ℝ, x j = (r : EReal)) (hw : ∀ j, ∃ r : ℝ, wq j = (r : EReal)) (hK : ∀ j, ∃ r : ℝ, K j = (r : EReal)) :
    ∃ S : Fin 8 → Fin 256 → Fin 16384 → ℝ,
      (∀ h i t, RefValue.scores (RefValue.queries x wq) (RefValue.flat K) (ix4 0 h i t) = (S h i t : EReal))
      ∧ ∀ (h : Fin 8) (i : Fin 256) (t : Fin 16384), ∑ e : Fin 128, k0_pay1 (F := Ideal) x wq (ix2 i ⟨128 * h + e, by omega⟩) * RefValue.flat K (ix4 0 t h e) = (S h i t : EReal) := by
  choose xr hx using hx
  choose wr hw using hw
  choose Kr hK using hK
  obtain ⟨s, hs⟩ := scale_real
  have hq : ∀ i n, (∑ k : Fin 1024, x (ix3 0 i k) * wq (ix2 k n)) = ((∑ k : Fin 1024, xr (ix3 0 i k) * wr (ix2 k n) : ℝ) : EReal) := by
    intro i n
    rw [Softmax.coe_sum]
    refine Finset.sum_congr rfl fun k _ => ?_
    rw [hx, hw, EReal.coe_mul]
  refine ⟨fun h i t => (∑ e : Fin 128, (∑ k : Fin 1024, xr (ix3 0 i k) * wr (ix2 k ⟨128 * h + e, by omega⟩))
    * Kr (ix6 0 ⟨t / 256, by omega⟩ ⟨t / 64 % 4, by omega⟩ ⟨t % 64, by omega⟩ h e)) * s, fun h i t => ?_, fun h i t => ?_⟩
  · rw [RefValue.scores_apply, hs, EReal.coe_mul, Softmax.coe_sum]
    refine congrArg (fun z : EReal => z * (s : EReal)) (Finset.sum_congr rfl fun e _ => ?_)
    rw [RefValue.queries_apply, RefValue.flat_apply, hq, hK, EReal.coe_mul]
  · beta_reduce
    rw [Finset.sum_mul, Softmax.coe_sum]
    refine Finset.sum_congr rfl fun e _ => ?_
    rw [pay1_apply, RefValue.flat_apply, hq, hK, hs, ← EReal.coe_mul, ← EReal.coe_mul]
    refine congrArg (fun r : ℝ => (r : EReal)) ?_
    ring

/-! ## The value -/

/-- A device's block of the whole keys or values, entry by entry. -/
theorem block_read (c : Fin 4) (v : FVec Ideal Cert.ReferenceIdeal.S1x64x4x64x8x128 .f32) (g : Fin 4) (p : Fin 1024) (h : Fin 8) (d : Fin 128) :
    (Layout.block ⟨6, ![1, 16, 4, 64, 8, 128]⟩ ⟨6, ![1, 64, 4, 64, 8, 128]⟩ 1 4 c v : FVec Ideal S1x16x4x64x8x128 .f32)
        (ix6 0 ⟨p / 64, by omega⟩ g ⟨p % 64, by omega⟩ h d)
      = RefValue.flat v (ix4 0 (keyAt g c p) h d) := by
  rw [RefValue.flat_apply, Layout.block_apply]
  refine congrArg v (funext fun b => Fin.ext ?_)
  rw [Layout.Tiles.idx_val]
  match b with
  | ⟨0, _⟩ => rfl
  | ⟨1, _⟩ => show c.val * 16 + p.val / 64 = (4096 * c.val + 256 * (p.val / 64) + 64 * g.val + p.val % 64) / 256; omega
  | ⟨2, _⟩ => show g.val = (4096 * c.val + 256 * (p.val / 64) + 64 * g.val + p.val % 64) / 64 % 4; omega
  | ⟨3, _⟩ => show p.val % 64 = (4096 * c.val + 256 * (p.val / 64) + 64 * g.val + p.val % 64) % 64; omega
  | ⟨4, _⟩ => rfl
  | ⟨5, _⟩ => rfl

variable (m : (ℓ : Loc nD τ sig) → Buf (Elt Ideal) ℓ) (ρ : Dev nD → PrngReg)

/-- A staged argument is the argument array. -/
theorem xS_eq (c : Dev nD) : xS m ρ c = m ((c : Thread nD τ).loc main_arg0) :=
  Memref.read_access_unit_zero (Elt Ideal) main_arg0 (funext fun a => by fin_cases a <;> decide) (fun a => by fin_cases a <;> decide) _
theorem wqS_eq (c : Dev nD) : wqS m ρ c = m ((c : Thread nD τ).loc main_arg1) :=
  Memref.read_access_unit_zero (Elt Ideal) main_arg1 (funext fun a => by fin_cases a <;> decide) (fun a => by fin_cases a <;> decide) _
theorem kS_eq (c : Dev nD) : kS m ρ c = m ((c : Thread nD τ).loc main_arg2) :=
  Memref.read_access_unit_zero (Elt Ideal) main_arg2 (funext fun a => by fin_cases a <;> decide) (fun a => by fin_cases a <;> decide) _
theorem vS_eq (c : Dev nD) : vS m ρ c = m ((c : Thread nD τ).loc main_arg3) :=
  Memref.read_access_unit_zero (Elt Ideal) main_arg3 (funext fun a => by fin_cases a <;> decide) (fun a => by fin_cases a <;> decide) _
theorem woS_eq (c : Dev nD) : woS m ρ c = m ((c : Thread nD τ).loc main_arg4) :=
  Memref.read_access_unit_zero (Elt Ideal) main_arg4 (funext fun a => by fin_cases a <;> decide) (fun a => by fin_cases a <;> decide) _

/-- The result of a device whose mesh holds the parts of finite `x`, `wq`, `K` and of any `V`, `wo`, is the reference's. -/
theorem outAt_eq (x : FVec Ideal S1x256x1024 .f32) (wq wo : FVec Ideal S1024x1024 .f32) (K V : FVec Ideal Cert.ReferenceIdeal.S1x64x4x64x8x128 .f32)
    (hx : ∀ j, ∃ r : ℝ, x j = (r : EReal)) (hw : ∀ j, ∃ r : ℝ, wq j = (r : EReal)) (hK : ∀ j, ∃ r : ℝ, K j = (r : EReal))
    (h0 : ∀ c, xS m ρ c = x) (h1 : ∀ c, wqS m ρ c = wq) (h4 : ∀ c, woS m ρ c = wo)
    (h2 : ∀ c, kS m ρ c = Layout.block ⟨6, ![1, 16, 4, 64, 8, 128]⟩ ⟨6, ![1, 64, 4, 64, 8, 128]⟩ 1 4 c K)
    (h3 : ∀ c, vS m ρ c = Layout.block ⟨6, ![1, 16, 4, 64, 8, 128]⟩ ⟨6, ![1, 64, 4, 64, 8, 128]⟩ 1 4 c V) (c : Dev nD) :
    outAt m ρ c = RefValue.result x wq K V wo := by
  obtain ⟨S, hS, hk⟩ := scores_real x wq K hx hw hK
  have he : ∀ (o : Fin 4) (i : Fin 256) (h : Fin 8) (p : Fin 1024),
      ex (qS m ρ o) (kS m ρ o) i h p = Ideal.exp (S h i (keyAt ⟨i / 64, by omega⟩ o p) : EReal) := by
    intro o i h p
    unfold ex
    rw [← hk]
    refine congrArg Ideal.exp (Finset.sum_congr rfl fun e _ => ?_)
    rw [h2, block_read]
    unfold qS
    rw [h0, h1]
  have hn : ∀ (i : Fin 256) (h : Fin 8) (d : Fin 128), (∑ o : Fin 4, num (qS m ρ o) (kS m ρ o) (vS m ρ o) i h d)
      = ∑ t : Fin 16384, if t.val / 64 % 4 = i.val / 64 then Ideal.exp (S h i t : EReal) * RefValue.flat V (ix4 0 t h d) else 0 := by
    intro i h d
    refine Eq.trans ?_ (sum_keys ⟨i / 64, by omega⟩ fun t => Ideal.exp (S h i t : EReal) * RefValue.flat V (ix4 0 t h d)).symm
    refine Finset.sum_congr rfl fun o _ => ?_
    unfold num
    refine Finset.sum_congr rfl fun p _ => ?_
    rw [he, h3, block_read]
  have hd : ∀ (i : Fin 256) (h : Fin 8), (∑ o : Fin 4, den (qS m ρ o) (kS m ρ o) i h)
      = ∑ t : Fin 16384, if t.val / 64 % 4 = i.val / 64 then Ideal.exp (S h i t : EReal) else 0 := by
    intro i h
    refine Eq.trans ?_ (sum_keys ⟨i / 64, by omega⟩ fun t => Ideal.exp (S h i t : EReal)).symm
    refine Finset.sum_congr rfl fun o _ => ?_
    unfold den
    refine Finset.sum_congr rfl fun p _ => ?_
    rw [he]
  refine funext fun (j : (⟨3, ![1, 256, 1024]⟩ : Shape).Idx) => ?_
  obtain ⟨i, n, rfl⟩ : ∃ (i : Fin 256) (n : Fin 1024), j = ix3 0 i n := ⟨j 1, j 2, ix3_eta j _ _ _ (Subsingleton.elim (α := Fin 1) _ _) rfl rfl⟩
  rw [RefValue.result_apply x wq K V wo S hS]
  refine Eq.trans (α := EReal) (outAt_apply m ρ c i n) (Finset.sum_congr rfl fun e _ => ?_)
  rw [hn, hd, h4]

end Cert.RingProof
end
-- ==== Proof.Algebraic.lean ====
/- The values: on the ideal numbers the ring and the reference end with one result. -/
module

public import proofs.«01_k».proof.Proof.Value
public import proofs.«01_k».proof.Proof.Frames
public import proofs.«01_k».proof.Proof.Gen.ReferenceIdeal.Run
public import proofs.«01_k».proof.Proof.Gen.Pre_finite_KernelIdeal

@[expose] public section

noncomputable section

namespace Cert.RingProof

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- In a final state the result array holds what the body left of its block, the whole of it. -/
theorem final_out (c : Dev nD) (r : PUnit × MemSt nD τ sig (Elt Ideal)) (h : QC m ρ r) :
    r.2.mem ((c.tc : Thread nD τ).loc main_v1) = outAt m ρ c := by
  refine (h c 5).trans ?_
  have hr : (win0_5.blk (0 : Fin 1)).view.read (Elt Ideal) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  refine Eq.trans ?_ hr
  exact (Memref.read_access_unit_zero (Elt Ideal) main_v1 (funext fun a => by fin_cases a <;> decide) (fun a => by fin_cases a <;> decide) _).symm

end Cert.RingProof

namespace Cert.Proof

open Idealize.ShloMosaic Idealize.ShloMosaic.TcCoe Idealize.SL.Sem Cert.RingProof

/-- Three arrays of the precondition's function, where it says yes everywhere, are of real numbers. -/
theorem finite_of_fn (x : FVec Ideal Cert.Pre_finite_KernelIdeal.S1x256x1024 .f32) (w w' : FVec Ideal Cert.Pre_finite_KernelIdeal.S1024x1024 .f32)
    (k v : FVec Ideal Cert.Pre_finite_KernelIdeal.S1x16x4x64x8x128 .f32)
    (h : (Cert.Pre_finite_KernelIdeal.fn x w k v w').1 = (fun _ => 1#1) ∧ (Cert.Pre_finite_KernelIdeal.fn x w k v w').2.1 = (fun _ => 1#1)
      ∧ (Cert.Pre_finite_KernelIdeal.fn x w k v w').2.2 = (fun _ => 1#1)) :
    (∀ j, ∃ r : ℝ, x j = (r : EReal)) ∧ (∀ j, ∃ r : ℝ, w j = (r : EReal)) ∧ (∀ j, ∃ r : ℝ, k j = (r : EReal)) :=
  ⟨fun j => real_of_lt _ (congrFun h.1 j), fun j => real_of_lt _ (congrFun h.2.1 j), fun j => real_of_lt _ (congrFun h.2.2 j)⟩

/-- Keys whose four blocks are of real numbers are of real numbers. -/
theorem whole_real (K : FVec Ideal Cert.ReferenceIdeal.S1x64x4x64x8x128 .f32)
    (h : ∀ (c : Fin 4) (j : (⟨6, ![1, 16, 4, 64, 8, 128]⟩ : Shape).Idx), ∃ r : ℝ,
      (Layout.block ⟨6, ![1, 16, 4, 64, 8, 128]⟩ ⟨6, ![1, 64, 4, 64, 8, 128]⟩ 1 4 c K : FVec Ideal Cert.KernelIdeal.S1x16x4x64x8x128 .f32) j = (r : EReal))
    (j : Cert.ReferenceIdeal.S1x64x4x64x8x128.Idx) : ∃ r : ℝ, K j = (r : EReal) := by
  have hj : (j 1).val < 64 := (j 1).isLt
  obtain ⟨r, hr⟩ := h ⟨(j 1).val / 16, by omega⟩ (ix6 (j 0) ⟨(j 1).val % 16, by omega⟩ (j 2) (j 3) (j 4) (j 5))
  refine ⟨r, Eq.trans ?_ hr⟩
  rw [Layout.block_apply]
  refine congrArg K (funext fun b => Fin.ext ?_)
  rw [Layout.Tiles.idx_val]
  match b with
  | ⟨0, _⟩ => rfl
  | ⟨1, _⟩ => show (j 1).val = (j 1).val / 16 * 16 + (j 1).val % 16; omega
  | ⟨2, _⟩ => rfl
  | ⟨3, _⟩ => rfl
  | ⟨4, _⟩ => rfl
  | ⟨5, _⟩ => rfl

theorem algebraic : Cert.algebraic_KernelIdeal_ReferenceIdeal_pre_finite_KernelIdeal
    (hKernelIdeal := Cert.KernelIdeal.Gen.facts) (hReferenceIdeal := Cert.ReferenceIdeal.Gen.facts)
    (hPre_finite_KernelIdeal := Cert.Pre_finite_KernelIdeal.Gen.facts) := by
  intro m g m' g' hpre hio
  have hfin := fun c => finite_of_fn _ _ _ _ _ (hpre c)
  have hK := whole_real _ fun c j => by
    obtain ⟨r, hr⟩ := (hfin c).2.2 j
    exact ⟨r, (congrFun (hio c).2.2.1 j).symm.trans hr⟩
  have hx : ∀ j, ∃ r : ℝ, _ = (r : EReal) := fun j => by
    obtain ⟨r, hr⟩ := (hfin 0).1 j
    exact ⟨r, (congrFun (hio 0).1 j).symm.trans hr⟩
  have hw : ∀ j, ∃ r : ℝ, _ = (r : EReal) := fun j => by
    obtain ⟨r, hr⟩ := (hfin 0).2.1 j
    exact ⟨r, (congrFun (hio 0).2.1 j).symm.trans hr⟩
  have hout : ∀ c, outAt m g c = Cert.ReferenceIdeal.Value.res_out0 m' 0 := fun c =>
    (outAt_eq m g _ _ _ _ _ hx hw hK (fun c => (xS_eq m g c).trans (hio c).1) (fun c => (wqS_eq m g c).trans (hio c).2.1)
      (fun c => (woS_eq m g c).trans (hio c).2.2.2.2) (fun c => (kS_eq m g c).trans (hio c).2.2.1)
      (fun c => (vS_eq m g c).trans (hio c).2.2.2.1) c).trans (RefValue.res_eq m' 0).symm
  exact ⟨Cert.ReferenceIdeal.Value.res_out0 m' 0,
    (θ_run Cert.KernelIdeal.defs _ _).mono (fun r h c => ⟨(final_out m g c r h.1).trans (hout c), kept m g c r h.1⟩) (run_main (F := Ideal) m g),
    (θ_run Cert.ReferenceIdeal.defs _ _).mono (fun r h => h 0) (Cert.ReferenceIdeal.Value.run (F := Ideal) m' g')⟩

end Cert.Proof

end
-- ==== Proof.lean ====
/- The certificate: the frames of the three programs (Proof/Frames.lean), and the values (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    frame_kernel, frame_ideal, frame_ideal_finite, frame_reference, frame_reference_finite, trivial, algebraic⟩

end Cert.Proof

end
